-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_nin" .f32 0x3B638E39#32 ((1 / 288 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x16x3 : Shape := ⟨3, ![32, 16, 3]⟩
abbrev S_ : Shape := ⟨0, ![]⟩

class Facts : Prop where
  bcast_S_S32x16x3 : S_.BroadcastsInDim S32x16x3 (![] : Fin 0 → Fin S32x16x3.rank)
  reducesTo_S32x16x3_S_d0_1_2 : S32x16x3.ReducesTo [0, 1, 2] S_
  h_S_ : 0 < S_.numel

variable [Facts]

def fn {F : FTy → Type} [FloatOps F] (main_arg0 : FVec F S32x16x3 .f32) (main_arg1 : FVec F S32x16x3 .f32) : IVec S_ 1 :=
  let main_v0 : FVec F S32x16x3 .f32 := Host.absf main_arg0
  let main_cst : FVec F S_ .f32 := constant S_ .f32 0x7F800000#32
  let main_v1 : FVec F S32x16x3 .f32 := broadcastInDim S32x16x3 ![] bcast_S_S32x16x3 main_cst
  let main_v2 : IVec S32x16x3 1 := cmpf .olt main_v0 main_v1
  let main_c : IVec S_ 1 := constantI S_ 1 1#1
  let main_v3 : IVec S_ 1 := (fun x v => Host.reduce IntOp.andi x v reducesTo_S32x16x3_S_d0_1_2 h_S_) main_v2 main_c
  let main_v4 : FVec F S32x16x3 .f32 := Host.absf main_arg1
  let main_cst_0 : FVec F S_ .f32 := constant S_ .f32 0x7F800000#32
  let main_v5 : FVec F S32x16x3 .f32 := broadcastInDim S32x16x3 ![] bcast_S_S32x16x3 main_cst_0
  let main_v6 : IVec S32x16x3 1 := cmpf .olt main_v4 main_v5
  let main_c_1 : IVec S_ 1 := constantI S_ 1 1#1
  let main_v7 : IVec S_ 1 := (fun x v => Host.reduce IntOp.andi x v reducesTo_S32x16x3_S_d0_1_2 h_S_) main_v6 main_c_1
  let main_v8 : IVec S_ 1 := andi main_v3 main_v7
  main_v8
-- ==== Kernel.lean ====
abbrev S32x16x3 : Shape := ⟨3, ![32, 16, 3]⟩
abbrev S32x16x1 : Shape := ⟨3, ![32, 16, 1]⟩
abbrev S32x16 : Shape := ⟨2, ![32, 16]⟩
abbrev S2x1x16 : Shape := ⟨3, ![2, 1, 16]⟩
abbrev S16x16 : Shape := ⟨2, ![16, 16]⟩
abbrev S1x1x16 : Shape := ⟨3, ![1, 1, 16]⟩
abbrev S16x16x1 : Shape := ⟨3, ![16, 16, 1]⟩
abbrev S16x1x16 : Shape := ⟨3, ![16, 1, 16]⟩
abbrev S16x16x16 : Shape := ⟨3, ![16, 16, 16]⟩
abbrev S16 : Shape := ⟨1, ![16]⟩
abbrev S16x1 : Shape := ⟨2, ![16, 1]⟩
abbrev S16x1x1 : Shape := ⟨3, ![16, 1, 1]⟩
abbrev S16x16x8 : Shape := ⟨3, ![16, 16, 8]⟩
abbrev S16x16x4 : Shape := ⟨3, ![16, 16, 4]⟩
abbrev S16x16x2 : Shape := ⟨3, ![16, 16, 2]⟩
abbrev S16x8x16 : Shape := ⟨3, ![16, 8, 16]⟩
abbrev S16x4x16 : Shape := ⟨3, ![16, 4, 16]⟩
abbrev S16x2x16 : Shape := ⟨3, ![16, 2, 16]⟩
abbrev S1x16x16 : Shape := ⟨3, ![1, 16, 16]⟩
abbrev S1x16x1 : Shape := ⟨3, ![1, 16, 1]⟩
abbrev S16x1x2 : Shape := ⟨3, ![16, 1, 2]⟩
abbrev S16x8x1 : Shape := ⟨3, ![16, 8, 1]⟩
abbrev S16x4x1 : Shape := ⟨3, ![16, 4, 1]⟩
abbrev S16x2x1 : Shape := ⟨3, ![16, 2, 1]⟩
abbrev S32 : Shape := ⟨1, ![32]⟩

abbrev nBuf : Space → Nat
  | .hbm => 16
  | .vmem => 14
  | .smem => 0
  | _ => 0

abbrev bufTy : (tb : Table) → Fin (tcTables nBuf tb) → BufTy
  | .hbm, ⟨0, _⟩ => ⟨S32x16x3, .f32⟩
  | .hbm, ⟨1, _⟩ => ⟨S32x16x3, .f32⟩
  | .hbm, ⟨2, _⟩ => ⟨S32x16x1, .f32⟩
  | .hbm, ⟨3, _⟩ => ⟨S32x16, .f32⟩
  | .hbm, ⟨4, _⟩ => ⟨S32x16x1, .f32⟩
  | .hbm, ⟨5, _⟩ => ⟨S32x16, .f32⟩
  | .hbm, ⟨6, _⟩ => ⟨S32x16x1, .f32⟩
  | .hbm, ⟨7, _⟩ => ⟨S32x16, .f32⟩
  | .hbm, ⟨8, _⟩ => ⟨S32x16x1, .f32⟩
  | .hbm, ⟨9, _⟩ => ⟨S32x16, .f32⟩
  | .hbm, ⟨10, _⟩ => ⟨S32x16x1, .f32⟩
  | .hbm, ⟨11, _⟩ => ⟨S32x16, .f32⟩
  | .hbm, ⟨12, _⟩ => ⟨S32x16x1, .f32⟩
  | .hbm, ⟨13, _⟩ => ⟨S32x16, .f32⟩
  | .hbm, ⟨14, _⟩ => ⟨S2x1x16, .f32⟩
  | .hbm, ⟨15, _⟩ => ⟨S32, .f32⟩
  | .local _ .vmem, ⟨0, _⟩ => ⟨S16x16, .f32⟩
  | .local _ .vmem, ⟨1, _⟩ => ⟨S16x16, .f32⟩
  | .local _ .vmem, ⟨2, _⟩ => ⟨S16x16, .f32⟩
  | .local _ .vmem, ⟨3, _⟩ => ⟨S16x16, .f32⟩
  | .local _ .vmem, ⟨4, _⟩ => ⟨S16x16, .f32⟩
  | .local _ .vmem, ⟨5, _⟩ => ⟨S16x16, .f32⟩
  | .local _ .vmem, ⟨6, _⟩ => ⟨S16x16, .f32⟩
  | .local _ .vmem, ⟨7, _⟩ => ⟨S16x16, .f32⟩
  | .local _ .vmem, ⟨8, _⟩ => ⟨S16x16, .f32⟩
  | .local _ .vmem, ⟨9, _⟩ => ⟨S16x16, .f32⟩
  | .local _ .vmem, ⟨10, _⟩ => ⟨S16x16, .f32⟩
  | .local _ .vmem, ⟨11, _⟩ => ⟨S16x16, .f32⟩
  | .local _ .vmem, ⟨12, _⟩ => ⟨S1x1x16, .f32⟩
  | .local _ .vmem, ⟨13, _⟩ => ⟨S1x1x16, .f32⟩
  | _, _ => ⟨S32x16x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c18_i32 : BitVec 32 := 18#32
  let v49 : BitVec 32 := Scalar.subi c18_i32 c0_i32
  let c1_i32 : BitVec 32 := 1#32
  let v51 : BitVec 32 := Scalar.divsi v49 c1_i32
  let v52 : BitVec 32 := Scalar.muli v51 c1_i32
  let v53 : BitVec 32 := Scalar.addi c0_i32 v52
  let c1_i32_24 : BitVec 32 := 1#32
  ⟨c0_i32, v53, c1_i32_24⟩
@[reducible] def k0_t2_loop : Scf.Loop 32 :=
  let c0_i32 : BitVec 32 := 0#32
  let c18_i32 : BitVec 32 := 18#32
  let v49 : BitVec 32 := Scalar.subi c18_i32 c0_i32
  let c1_i32 : BitVec 32 := 1#32
  let v51 : BitVec 32 := Scalar.divsi v49 c1_i32
  let v52 : BitVec 32 := Scalar.muli v51 c1_i32
  let v53 : BitVec 32 := Scalar.addi c0_i32 v52
  let v50 : BitVec 32 := Scalar.addi c0_i32 v49
  let c1_i32_25 : BitVec 32 := 1#32
  ⟨v53, v50, c1_i32_25⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_nin" => some ((1 / 288 : ℝ) : EReal)
  | _ => none
-- ==== ReferenceIdeal.lean ====
abbrev S32x16x3 : Shape := ⟨3, ![32, 16, 3]⟩
abbrev S32x16x2 : Shape := ⟨3, ![32, 16, 2]⟩
abbrev S32x16x1x2 : Shape := ⟨4, ![32, 16, 1, 2]⟩
abbrev S32x1x16x2 : Shape := ⟨4, ![32, 1, 16, 2]⟩
abbrev S32x16x16x2 : Shape := ⟨4, ![32, 16, 16, 2]⟩
abbrev S_ : Shape := ⟨0, ![]⟩
abbrev S32x16x16 : Shape := ⟨3, ![32, 16, 16]⟩
abbrev S32x16x1 : Shape := ⟨3, ![32, 16, 1]⟩
abbrev S32x16 : Shape := ⟨2, ![32, 16]⟩
abbrev S32x256 : Shape := ⟨2, ![32, 256]⟩
abbrev S256x256 : Shape := ⟨2, ![256, 256]⟩
abbrev S16x16x16 : Shape := ⟨3, ![16, 16, 16]⟩
abbrev S16x256 : Shape := ⟨2, ![16, 256]⟩
abbrev S288x256 : Shape := ⟨2, ![288, 256]⟩
abbrev S256x288 : Shape := ⟨2, ![256, 288]⟩
abbrev S32x1 : Shape := ⟨2, ![32, 1]⟩
abbrev S32 : Shape := ⟨1, ![32]⟩
abbrev S32x288 : Shape := ⟨2, ![32, 288]⟩
abbrev S1x256x256 : Shape := ⟨3, ![1, 256, 256]⟩
abbrev S32x288x1x1 : Shape := ⟨4, ![32, 288, 1, 1]⟩
abbrev S288x256x1 : Shape := ⟨3, ![288, 256, 1]⟩
abbrev S288x1x256 : Shape := ⟨3, ![288, 1, 256]⟩
abbrev S288x256x256 : Shape := ⟨3, ![288, 256, 256]⟩
abbrev S1x288x256x256 : Shape := ⟨4, ![1, 288, 256, 256]⟩
abbrev S32x288x256x256 : Shape := ⟨4, ![32, 288, 256, 256]⟩
abbrev S32x256x256 : Shape := ⟨3, ![32, 256, 256]⟩
abbrev S1x256x1 : Shape := ⟨3, ![1, 256, 1]⟩
abbrev S1x1x256 : Shape := ⟨3, ![1, 1, 256]⟩
abbrev S32x256x1 : Shape := ⟨3, ![32, 256, 1]⟩
abbrev S32x1x1 : Shape := ⟨3, ![32, 1, 1]⟩
abbrev S32x1x256 : Shape := ⟨3, ![32, 1, 256]⟩
abbrev S1x256 : Shape := ⟨2, ![1, 256]⟩

abbrev nBuf : Space → Nat
  | .hbm => 51
  | .vmem => 6
  | .smem => 0
  | _ => 0

abbrev bufTy : (tb : Table) → Fin (tcTables nBuf tb) → BufTy
  | .hbm, ⟨0, _⟩ => ⟨S32x16x3, .f32⟩
  | .hbm, ⟨1, _⟩ => ⟨S32x16x3, .f32⟩
  | .hbm, ⟨2, _⟩ => ⟨S32x16x2, .f32⟩
  | .hbm, ⟨3, _⟩ => ⟨S32x16x1x2, .f32⟩
  | .hbm, ⟨4, _⟩ => ⟨S32x16x2, .f32⟩
  | .hbm, ⟨5, _⟩ => ⟨S32x1x16x2, .f32⟩
  | .hbm, ⟨6, _⟩ => ⟨S32x16x16x2, .f32⟩
  | .hbm, ⟨7, _⟩ => ⟨S32x16x16x2, .f32⟩
  | .hbm, ⟨8, _⟩ => ⟨S32x16x16x2, .f32⟩
  | .hbm, ⟨9, _⟩ => ⟨S32x16x16x2, .f32⟩
  | .hbm, ⟨10, _⟩ => ⟨S_, .f32⟩
  | .hbm, ⟨11, _⟩ => ⟨S32x16x16x2, .f32⟩
  | .hbm, ⟨12, _⟩ => ⟨S32x16x16x2, .f32⟩
  | .hbm, ⟨13, _⟩ => ⟨S32x16x16x2, .f32⟩
  | .hbm, ⟨14, _⟩ => ⟨S_, .f32⟩
  | .hbm, ⟨15, _⟩ => ⟨S32x16x16, .f32⟩
  | .hbm, ⟨16, _⟩ => ⟨S32x16x16, .f32⟩
  | .hbm, ⟨17, _⟩ => ⟨S32x16x1, .f32⟩
  | .hbm, ⟨18, _⟩ => ⟨S32x16, .f32⟩
  | .hbm, ⟨19, _⟩ => ⟨S32x16x1, .f32⟩
  | .hbm, ⟨20, _⟩ => ⟨S32x16, .f32⟩
  | .hbm, ⟨21, _⟩ => ⟨S32x256, .f32⟩
  | .hbm, ⟨22, _⟩ => ⟨S256x256, .i32⟩
  | .hbm, ⟨23, _⟩ => ⟨S256x256, .i32⟩
  | .hbm, ⟨24, _⟩ => ⟨S16x16x16, .i32⟩
  | .hbm, ⟨25, _⟩ => ⟨S16x16x16, .i32⟩
  | .hbm, ⟨26, _⟩ => ⟨S16x16x16, .i32⟩
  | .hbm, ⟨27, _⟩ => ⟨S256x256, .i1⟩
  | .hbm, ⟨28, _⟩ => ⟨S_, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S16x16x16, .i1⟩
  | .hbm, ⟨34, _⟩ => ⟨S_, .f32⟩
  | .hbm, ⟨35, _⟩ => ⟨S_, .f32⟩
  | .hbm, ⟨36, _⟩ => ⟨S16x16x16, .f32⟩
  | .hbm, ⟨37, _⟩ => ⟨S16x16x16, .f32⟩
  | .hbm, ⟨38, _⟩ => ⟨S16x16x16, .f32⟩
  | .hbm, ⟨39, _⟩ => ⟨S16x256, .f32⟩
  | .hbm, ⟨40, _⟩ => ⟨S16x16x16, .i1⟩
  | .hbm, ⟨41, _⟩ => ⟨S_, .f32⟩
  | .hbm, ⟨42, _⟩ => ⟨S_, .f32⟩
  | .hbm, ⟨43, _⟩ => ⟨S16x16x16, .f32⟩
  | .hbm, ⟨44, _⟩ => ⟨S16x16x16, .f32⟩
  | .hbm, ⟨45, _⟩ => ⟨S16x16x16, .f32⟩
  | .hbm, ⟨46, _⟩ => ⟨S16x256, .f32⟩
  | .hbm, ⟨47, _⟩ => ⟨S288x256, .f32⟩
  | .hbm, ⟨48, _⟩ => ⟨S256x288, .f32⟩
  | .hbm, ⟨49, _⟩ => ⟨S32x1, .f32⟩
  | .hbm, ⟨50, _⟩ => ⟨S32, .f32⟩
  | .local _ .vmem, ⟨0, _⟩ => ⟨S32x256, .f32⟩
  | .local _ .vmem, ⟨1, _⟩ => ⟨S32x16, .f32⟩
  | .local _ .vmem, ⟨2, _⟩ => ⟨S32x16, .f32⟩
  | .local _ .vmem, ⟨3, _⟩ => ⟨S288x256, .f32⟩
  | .local _ .vmem, ⟨4, _⟩ => ⟨S256x288, .f32⟩
  | .local _ .vmem, ⟨5, _⟩ => ⟨S32x1, .f32⟩
  | _, _ => ⟨S32x16x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_cst_6 : Ref sig .tc := ⟨.hbm, 42, rfl⟩
abbrev main_call2_v0 : Ref sig .tc := ⟨.hbm, 43, rfl⟩
abbrev main_call2_v1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c18_i32 : BitVec 32 := 18#32
  let v27 : BitVec 32 := Scalar.addi c0_i32 c18_i32
  let c1_i32 : BitVec 32 := 1#32
  ⟨c0_i32, v27, c1_i32⟩
@[reducible] def k0_t2_loop : Scf.Loop 32 :=
  let c0_i32_32 : BitVec 32 := 0#32
  let c256_i32 : BitVec 32 := 256#32
  let v86 : BitVec 32 := Scalar.addi c0_i32_32 c256_i32
  let c1_i32_33 : BitVec 32 := 1#32
  ⟨c0_i32_32, v86, c1_i32_33⟩
@[reducible] def k0_t3_loop : Scf.Loop 32 :=
  let c0_i32_35 : BitVec 32 := 0#32
  let c256_i32_36 : BitVec 32 := 256#32
  let v91 : BitVec 32 := Scalar.addi c0_i32_35 c256_i32_36
  let c1_i32_37 : BitVec 32 := 1#32
  ⟨c0_i32_35, v91, c1_i32_37⟩
@[reducible] def k0_t4_loop : Scf.Loop 32 :=
  let c0_i32_39 : BitVec 32 := 0#32
  let c256_i32_40 : BitVec 32 := 256#32
  let v93 : BitVec 32 := Scalar.addi c0_i32_39 c256_i32_40
  let c1_i32_41 : BitVec 32 := 1#32
  ⟨c0_i32_39, v93, c1_i32_41⟩
@[reducible] def k0_t5_loop : Scf.Loop 32 :=
  let c0_i32_44 : BitVec 32 := 0#32
  let c256_i32_45 : BitVec 32 := 256#32
  let v99 : BitVec 32 := Scalar.addi c0_i32_44 c256_i32_45
  let c1_i32_46 : BitVec 32 := 1#32
  ⟨c0_i32_44, v99, c1_i32_46⟩
@[reducible] def k0_t6_loop : Scf.Loop 32 :=
  let c0_i32_48 : BitVec 32 := 0#32
  let c256_i32_49 : BitVec 32 := 256#32
  let v101 : BitVec 32 := Scalar.addi c0_i32_48 c256_i32_49
  let c1_i32_50 : BitVec 32 := 1#32
  ⟨c0_i32_48, v101, c1_i32_50⟩
abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S288x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Mirror.lean ====
module

public import Idealize.ShloMosaic.Lib.ValueIdx
public import Idealize.ShloMosaic.Lib.Claim

/-!
# One interior-point step of the kernel, written as functions of its values

The kernel's loop body is printed as several thousand statements.  Here the same arithmetic is
written once, with the pair arithmetic (`dfAdd`, `dfMul`, …) as functions and the unrolled loops as
recursions, over any reading of the floats.
-/

@[expose] public section
noncomputable section

namespace Emd
open Idealize.ShloMosaic

/-- The rank-3 shape of three extents. -/
abbrev T3 (a b c : ℕ) : Shape := ⟨3, ![a, b, c]⟩
/-- The rank-2 shape of two extents. -/
abbrev T2 (a b : ℕ) : Shape := ⟨2, ![a, b]⟩
/-- The rank-1 shape of one extent. -/
abbrev T1 (a : ℕ) : Shape := ⟨1, ![a]⟩

/-- How an operand of shape `s` enters an operation of shape `t`: as it is, or broadcast. -/
inductive Emb : Shape → Shape → Type
  | id {s : Shape} : Emb s s
  | bc {s t : Shape} (h : s.Broadcasts t) : Emb s t

/-- The operand as it enters. -/
def Emb.app {α : Type} {s t : Shape} : Emb s t → (s.Idx → α) → t.Idx → α
  | .id => fun v => v
  | .bc h => fun v => broadcastTo _ v h

/-- A loop over `j = 0, …, k - 1`, unrolled. -/
def up {α : Type} (f : ℕ → α → α) : ℕ → α → α
  | 0, a => a
  | k + 1, a => f k (up f k a)

/-- A loop over `j = n - 1, …, n - k`, unrolled. -/
def down {α : Type} (n : ℕ) (f : ℕ → α → α) : ℕ → α → α
  | 0, a => a
  | k + 1, a => f (n - 1 - k) (down n f k a)

/-- The block `t` of `x` at `off`; `x` read at a fixed index where `t` is no block of it there. -/
def sl {α : Type} {s : Shape} (t : Shape) (off : Fin s.rank → ℕ) (d : α) (x : s.Idx → α) : t.Idx → α :=
  if h : s.Slices off t then extractStridedSlice t off x h else fun _ => d

variable {F : FTy → Type} [FloatOps F]

/-- A pair of a high and a low part. -/
abbrev DF (F : FTy → Type) (s : Shape) : Type := FVec F s .f32 × FVec F s .f32

/-- The splat of a word. -/
def cst (s : Shape) (w : BitVec 32) : FVec F s .f32 := broadcast s (Scalar.ofBits .f32 w)

section Pair
variable {s sa sb t : Shape}

/-- The quick sum of two values and its error. -/
def qts (a b : FVec F s .f32) : DF F s := (addf a b, subf b (subf (addf a b) a))

/-- The sum of two values and its error. -/
def twoSum (a b : FVec F s .f32) : DF F s :=
  (addf a b, addf (subf a (subf (addf a b) (subf (addf a b) a))) (subf b (subf (addf a b) a)))

/-- The split of a value into a high and a low half. -/
def split (a : FVec F s .f32) : DF F s :=
  (subf (mulf (cst s 0x45800800#32) a) (subf (mulf (cst s 0x45800800#32) a) a),
    subf a (subf (mulf (cst s 0x45800800#32) a) (subf (mulf (cst s 0x45800800#32) a) a)))

/-- The product of two values and its error. -/
def twoProd (ea : Emb sa t) (eb : Emb sb t) (a : FVec F sa .f32) (b : FVec F sb .f32) : DF F t :=
  (mulf (ea.app a) (eb.app b),
    addf (addf (addf (subf (mulf (ea.app (split a).1) (eb.app (split b).1)) (mulf (ea.app a) (eb.app b)))
      (mulf (ea.app (split a).1) (eb.app (split b).2)))
      (mulf (ea.app (split a).2) (eb.app (split b).1)))
      (mulf (ea.app (split a).2) (eb.app (split b).2)))

/-- The sum of two pairs. -/
def dfAdd (a b : DF F s) : DF F s :=
  let p := twoSum a.1 b.1
  let q := twoSum a.2 b.2
  let r := qts p.1 (addf p.2 q.1)
  qts r.1 (addf r.2 q.2)

/-- The opposite of a pair. -/
def dfNeg (a : DF F s) : DF F s := (subf (cst s 0#32) a.1, subf (cst s 0#32) a.2)

/-- The difference of two pairs. -/
def dfSub (a b : DF F s) : DF F s := dfAdd a (dfNeg b)

/-- The product of two pairs, each entering as it is or broadcast. -/
def dfMul (ea : Emb sa t) (eb : Emb sb t) (a : DF F sa) (b : DF F sb) : DF F t :=
  let p := twoProd ea eb a.1 b.1
  qts p.1 (addf p.2 (addf (mulf (ea.app a.1) (eb.app b.2)) (mulf (ea.app a.2) (eb.app b.1))))

/-- The product of a pair and a value. -/
def dfMulF (a : DF F s) (b : FVec F s .f32) : DF F s :=
  let p := twoProd .id .id a.1 b
  qts p.1 (addf p.2 (mulf a.2 b))

/-- The quotient of two pairs. -/
def dfDiv (a b : DF F s) : DF F s :=
  let q1 := divf a.1 b.1
  let r1 := dfSub a (dfMulF b q1)
  let q2 := divf r1.1 b.1
  let r2 := dfSub r1 (dfMulF b q2)
  let q3 := divf r2.1 b.1
  dfAdd (qts q1 q2) (q3, cst s 0#32)

/-- The reciprocal of a pair. -/
def dfRecip (b : DF F s) : DF F s :=
  let q0 := divf (cst s 0x3F800000#32) b.1
  let q1 := mulf q0 (subf (cst s 0x40000000#32) (mulf q0 b.1))
  let p := twoProd .id .id q1 b.1
  qts q1 (mulf q1 (subf (subf (subf (cst s 0x3F800000#32) p.1) p.2) (mulf q1 b.2)))

/-- The square root of a pair. -/
def dfSqrt (a : DF F s) : DF F s :=
  let q := sqrt a.1
  let r := dfSub a (twoProd .id .id q q)
  qts q (divf r.1 (mulf (cst s 0x40000000#32) q))

/-- A value as a pair. -/
def dfOf (x : FVec F s .f32) : DF F s := (x, cst s 0#32)

/-- Both parts through one change of layout. -/
def both (f : FVec F s .f32 → FVec F t .f32) (a : DF F s) : DF F t := (f a.1, f a.2)

/-- The block of a value at an offset. -/
def slF (t : Shape) (off : Fin s.rank → ℕ) (x : FVec F s .f32) : FVec F t .f32 :=
  sl t off (Scalar.ofBits .f32 0#32) x

/-- The choice between two values by a mask that is broadcast. -/
def mask {m : Shape} (hm : m.Broadcasts t) (c : IVec m 1) (x y : FVec F t .f32) : FVec F t .f32 :=
  select (broadcastTo t (shapeCast m c rfl) hm) x y

/-- A value broadcast after a cast to its own shape. -/
def bcs (h : s.Broadcasts t) (x : FVec F s .f32) : FVec F t .f32 := broadcastTo t (shapeCast s x rfl) h

end Pair

/-- One halving of the sum along the lanes. -/
def halfLanes {a b c : ℕ} (h : ℕ) (x : DF F (T3 a b c)) : DF F (T3 a b h) :=
  dfAdd (both (slF (T3 a b h) ![0, 0, 0]) x) (both (slF (T3 a b h) ![0, 0, h]) x)

/-- One halving of the sum along the sublanes. -/
def halfSub {a b c : ℕ} (h : ℕ) (x : DF F (T3 a b c)) : DF F (T3 a h c) :=
  dfAdd (both (slF (T3 a h c) ![0, 0, 0]) x) (both (slF (T3 a h c) ![0, h, 0]) x)

/-- The sum of sixteen lanes by halving. -/
def sumLanes {a b : ℕ} (x : DF F (T3 a b 16)) : DF F (T3 a b 1) :=
  halfLanes 1 (halfLanes 2 (halfLanes 4 (halfLanes 8 x)))

/-- The sum of sixteen sublanes by halving. -/
def sumSub {a c : ℕ} (x : DF F (T3 a 16 c)) : DF F (T3 a 1 c) :=
  halfSub 1 (halfSub 2 (halfSub 4 (halfSub 8 x)))

/-- The transposition of the last two axes of a cube. -/
def trCube (x : FVec F (T3 16 16 16) .f32) : FVec F (T3 16 16 16) .f32 := transpose (T3 16 16 16) [0, 2, 1] x
/-- A row turned into a column. -/
def trRow (x : FVec F (T3 16 1 16) .f32) : FVec F (T3 16 16 1) .f32 := transpose (T3 16 16 1) [0, 2, 1] x
/-- A column turned into a row. -/
def trCol (x : FVec F (T3 16 16 1) .f32) : FVec F (T3 16 1 16) .f32 := transpose (T3 16 1 16) [0, 2, 1] x

/-- A column entering a cube. -/
def eCol : Emb (T3 16 16 1) (T3 16 16 16) := .bc (by decide)
/-- A row entering a cube. -/
def eRow : Emb (T3 16 1 16) (T3 16 16 16) := .bc (by decide)

/-- The row number within a cube. -/
def rowNo : IVec (T3 1 16 16) 32 := iota .tc (T3 1 16 16) 32 [1]
/-- The row number within a column. -/
def colIx : IVec (T3 1 16 1) 32 := iota .tc (T3 1 16 1) 32 [1]
/-- The lane number within a row. -/
def rowIx : IVec (T3 1 1 16) 32 := iota .tc (T3 1 1 16) 32 [2]

/-- The complement's starting value: `K22` on the diagonal. -/
def schur0 (K22 : DF F (T3 16 1 16)) : DF F (T3 16 16 16) :=
  both (fun k => mask (m := T3 1 16 16) (by decide) (cmpi .eq rowNo (iota .tc (T3 1 16 16) 32 [2]))
    (addf (eRow.app k) (cst _ 0#32)) (cst _ 0#32)) K22

/-- One update of the complement: row `i`'s outer product is taken off. -/
def schurStep (E ET : DF F (T3 16 16 16)) (invK11 : DF F (T3 16 16 1)) (i : ℕ) (S : DF F (T3 16 16 16)) :
    DF F (T3 16 16 16) :=
  dfSub S (dfMul eCol eRow
    (dfMul .id (.bc (by decide)) (both (slF (T3 16 16 1) ![0, 0, i]) ET) (both (slF (T3 16 1 1) ![0, i, 0]) invK11))
    (both (slF (T3 16 1 16) ![0, i, 0]) E))

/-- What the factorization carries: the remaining matrix, the factor, its diagonal's reciprocals, the right-hand sides. -/
structure Chol (F : FTy → Type) where
  /-- the remaining matrix -/
  S : DF F (T3 16 16 16)
  /-- the transposed factor -/
  LT : DF F (T3 16 16 16)
  /-- the diagonal's reciprocals -/
  invd : DF F (T3 16 1 16)
  /-- the right-hand sides -/
  th : DF F (T3 16 16 2)

/-- The right-hand sides with row `j` scaled. -/
def scaleRow (j : ℕ) (inv : DF F (T3 16 1 1)) (th : DF F (T3 16 16 2)) : DF F (T3 16 16 2) :=
  let wj := dfMul .id (.bc (by decide)) th inv
  let mj : IVec (T3 1 16 1) 1 := cmpi .eq colIx (broadcast _ (BitVec.ofNat 32 j))
  (mask (by decide) mj wj.1 th.1, mask (by decide) mj wj.2 th.2)

/-- The right-hand sides less a column times row `j`. -/
def elimRow (j : ℕ) (col : DF F (T3 16 16 1)) (th : DF F (T3 16 16 2)) : DF F (T3 16 16 2) :=
  dfSub th (dfMul (.bc (by decide)) (.bc (by decide)) col (both (slF (T3 16 1 2) ![0, j, 0]) th))

/-- One column of the factorization, with the forward substitution. -/
def cholStep (j : ℕ) (c : Chol F) : Chol F :=
  let inv := dfRecip (dfSqrt (both (slF (T3 16 1 1) ![0, j, j]) c.S))
  let cols := dfMul .id (.bc (by decide)) (both (slF (T3 16 16 1) ![0, 0, j]) c.S) inv
  let coll := dfMul .id (.bc (by decide)) (both (slF (T3 16 1 16) ![0, j, 0]) c.S) inv
  let csm : IVec (T3 1 16 1) 1 := cmpi .sgt colIx (broadcast _ (BitVec.ofNat 32 j))
  let clm : IVec (T3 1 1 16) 1 := cmpi .sgt rowIx (broadcast _ (BitVec.ofNat 32 j))
  let colsz := both (fun x => mask (by decide) csm x (bcs (s := T3 1 16 1) (by decide) (cst _ 0#32))) cols
  let collz := both (fun x => mask (by decide) clm x (bcs (s := T3 1 1 16) (by decide) (cst _ 0#32))) coll
  let ljm : IVec (T3 1 1 16) 1 := cmpi .eq rowIx (broadcast _ (BitVec.ofNat 32 j))
  let rjm : IVec (T3 1 16 16) 1 := cmpi .eq rowNo (broadcast _ (BitVec.ofNat 32 j))
  { S := if j + 1 < 16 then dfSub c.S (dfMul eCol eRow colsz collz) else c.S
    LT := (mask (by decide) rjm (bcs (by decide) coll.1) c.LT.1, mask (by decide) rjm (bcs (by decide) coll.2) c.LT.2)
    invd := (mask (by decide) ljm (bcs (by decide) inv.1) c.invd.1, mask (by decide) ljm (bcs (by decide) inv.2) c.invd.2)
    th := elimRow j colsz (scaleRow j inv c.th) }

/-- One column of the back substitution. -/
def backStep (LT : DF F (T3 16 16 16)) (invd : DF F (T3 16 1 16)) (j : ℕ) (th : DF F (T3 16 16 2)) : DF F (T3 16 16 2) :=
  let th1 := scaleRow j (both (slF (T3 16 1 1) ![0, 0, j]) invd) th
  if 0 < j then
    let cbm : IVec (T3 1 16 1) 1 := cmpi .slt colIx (broadcast _ (BitVec.ofNat 32 j))
    elimRow j (both (fun x => mask (by decide) cbm (slF (T3 16 16 1) ![0, 0, j] x)
      (bcs (s := T3 1 16 1) (by decide) (cst _ 0#32))) LT) th1
  else th1

/-- Two columns side by side. -/
def cat2 (x y : FVec F (T3 16 16 1) .f32) : FVec F (T3 16 16 2) .f32 :=
  concatenate (T3 16 16 2) 2 [⟨T3 16 16 1, x⟩, ⟨T3 16 16 1, y⟩]
    (show Shape.Concatenates [T3 16 16 1, T3 16 16 1] (T3 16 16 2) 2 by decide)

/-- The complement's solution for both right-hand sides. -/
def solveS (S : DF F (T3 16 16 16)) (r1 r2 : DF F (T3 16 1 16)) : DF F (T3 16 16 2) :=
  let c := up cholStep 16 { S := S, LT := (cst _ 0#32, cst _ 0#32), invd := (cst _ 0#32, cst _ 0#32),
                            th := (cat2 (trRow r1.1) (trRow r2.1), cat2 (trRow r1.2) (trRow r2.2)) }
  down 16 (backStep c.LT c.invd) 16 c.th

/-- The full solution of one right-hand side from the complement's. -/
def backOut (E : DF F (T3 16 16 16)) (invK11 : DF F (T3 16 16 1)) (t : DF F (T3 16 16 16)) (a : DF F (T3 16 16 1))
    (wc : DF F (T3 16 16 1)) : DF F (T3 16 16 16) :=
  let wl := both trCol wc
  let wr := dfMul .id .id (dfSub a (sumLanes (dfMul .id eRow E wl))) invK11
  dfSub t (dfMul .id .id (dfAdd (both (fun x => addf (eCol.app x) (cst _ 0#32)) wr)
    (both (fun x => addf (eRow.app x) (cst _ 0#32)) wl)) E)

/-- The Newton direction: the flow's and the balance multiplier's. -/
def newton (d1 : FVec F (T3 16 16 16) .f32) (dr dc : FVec F (T2 16 16) .f32) (r1 : FVec F (T3 16 16 16) .f32)
    (ra : FVec F (T3 16 1 1) .f32) : FVec F (T3 16 16 16) .f32 × FVec F (T3 16 1 1) .f32 :=
  let E := dfRecip (dfAdd (cst _ 0x38D1B717#32, cst _ 0x2C31C433#32) (dfOf d1))
  let rsk := sumLanes E
  let csk := sumSub E
  let K11 := dfAdd (dfRecip (dfOf (shapeCast (T3 16 16 1) dr))) rsk
  let K22 := dfAdd (dfRecip (dfOf (shapeCast (T3 16 1 16) dc))) csk
  let invK11 := dfRecip K11
  let S := up (schurStep E (both trCube E) invK11) 16 (schur0 K22)
  let t1 := dfMul .id .id E (dfOf r1)
  let a1 := sumLanes t1
  let c1 := sumSub t1
  let rhs1 := dfSub c1 (sumSub (dfMul .id eCol E (dfMul .id .id a1 invK11)))
  let rhs2 := dfSub csk (sumSub (dfMul .id eCol E (dfMul .id .id rsk invK11)))
  let th := solveS S rhs1 rhs2
  let u := backOut E invK11 t1 a1 (both (slF (T3 16 16 1) ![0, 0, 0]) th)
  let v := backOut E invK11 E rsk (both (slF (T3 16 16 1) ![0, 0, 1]) th)
  let dy := dfDiv (dfSub (dfOf ra) (sumSub (sumLanes u))) (sumSub (sumLanes v))
  let dX := dfSub (dfNeg u) (dfMul .id .id v (both (fun x => addf (broadcastTo (T3 16 16 16) x) (cst _ 0#32)) dy))
  (dX.1, dy.1)

/-- What the interior-point loop carries: the flow, its slacks and multipliers, the rows', the columns', the balance's. -/
abbrev Carry (F : FTy → Type) : Type :=
  FVec F (T3 16 16 16) .f32 × FVec F (T3 16 16 16) .f32 × FVec F (T3 16 16 16) .f32 × FVec F (T2 16 16) .f32 ×
    FVec F (T2 16 16) .f32 × FVec F (T2 16 16) .f32 × FVec F (T2 16 16) .f32 × FVec F (T3 16 1 1) .f32

/-- The sum over a jet's square, one value per jet. -/
def sum12 (x : FVec F (T3 16 16 16) .f32) : FVec F (T3 16 1 1) .f32 :=
  shapeCast (T3 16 1 1) (multiReduction .add [1, 2] (T1 16) x 0x00000000#32 (by decide) (.inl rfl) rfl)
/-- The sum over a jet's line, one value per jet. -/
def sum1 (x : FVec F (T2 16 16) .f32) : FVec F (T3 16 1 1) .f32 :=
  shapeCast (T3 16 1 1) (shapeCast (T2 16 1) (multiReduction .add [1] (T1 16) x 0x00000000#32 (by decide) (.inl rfl) rfl))
/-- The sums of the rows. -/
def sumR (x : FVec F (T3 16 16 16) .f32) : FVec F (T2 16 16) .f32 :=
  multiReduction .add [2] (T2 16 16) x 0x00000000#32 (by decide) (.inl rfl) rfl
/-- The sums of the columns. -/
def sumC (x : FVec F (T3 16 16 16) .f32) : FVec F (T2 16 16) .f32 :=
  multiReduction .add [1] (T2 16 16) x 0x00000000#32 (by decide) (.inl rfl) rfl

/-- The bound on the step that one value's decrease sets. -/
def ratio {s : Shape} (x dx : FVec F s .f32) : FVec F s .f32 :=
  select (cmpf .olt dx (cst s 0#32))
    (divf (subf (cst s 0#32) x) (select (cmpf .olt dx (cst s 0#32)) dx (subf (cst s 0#32) (cst s 0x3F800000#32))))
    (cst s 0x7149F2CA#32)
/-- The least bound over a jet's square. -/
def ratio3 (x dx : FVec F (T3 16 16 16) .f32) : FVec F (T3 16 1 1) .f32 :=
  shapeCast (T3 16 1 1) (multiReduction .minimumf [1, 2] (T1 16) (ratio x dx) 0x7F800000#32 (by decide) (.inl rfl) rfl)
/-- The least bound over a jet's line. -/
def ratio2 (x dx : FVec F (T2 16 16) .f32) : FVec F (T3 16 1 1) .f32 :=
  shapeCast (T3 16 1 1) (shapeCast (T2 16 1)
    (multiReduction .minimumf [1] (T1 16) (ratio x dx) 0x7F800000#32 (by decide) (.inl rfl) rfl))

/-- A column of a matrix entering a cube. -/
def inCol (x : FVec F (T2 16 16) .f32) : FVec F (T3 16 16 16) .f32 := eCol.app (shapeCast (T3 16 16 1) x)
/-- A row of a matrix entering a cube. -/
def inRow (x : FVec F (T2 16 16) .f32) : FVec F (T3 16 16 16) .f32 := eRow.app (shapeCast (T3 16 1 16) x)
/-- One value per jet entering a cube. -/
def in3 (x : FVec F (T3 16 1 1) .f32) : FVec F (T3 16 16 16) .f32 := broadcastTo (T3 16 16 16) x
/-- One value per jet entering a matrix. -/
def in2 (x : FVec F (T3 16 1 1) .f32) : FVec F (T2 16 16) .f32 := broadcastTo (T2 16 16) (shapeCast (T2 16 1) x)

/-- The multiplier direction from the slack's. -/
def dzOf {s : Shape} (x z rs dx : FVec F s .f32) : FVec F s .f32 :=
  divf (subf (subf (cst s 0#32) rs) (mulf z dx)) x
/-- The residual's share of one kind of constraint. -/
def gOf {s : Shape} (x z rs rp : FVec F s .f32) : FVec F s .f32 := divf (subf (mulf z rp) rs) x
/-- A value moved and held at the floor. -/
def moved {s : Shape} (x a dx : FVec F s .f32) : FVec F s .f32 := maximumf (addf x (mulf a dx)) (cst s 0x15F79688#32)

/-- One interior-point step. -/
def step (inn : F .f32) (w1 w2 : FVec F (T2 16 16) .f32) (P : FVec F (T3 16 16 16) .f32) (b : FVec F (T3 16 1 1) .f32)
    (c : Carry F) : Carry F :=
  match c with
  | (X, s1, z1, sr, zr, sc, zc, y) =>
    let mu := mulf (addf (addf (sum12 (mulf s1 z1)) (sum1 (mulf sr zr))) (sum1 (mulf sc zc))) (broadcast (T3 16 1 1) inn)
    let rx := addf (addf (addf (subf (addf (mulf (cst _ 0x38D1B717#32) X) P) z1) (inCol zr)) (inRow zc)) (in3 y)
    let rp1 := subf s1 X
    let rpr := subf (addf (sumR X) sr) w1
    let rpc := subf (addf (sumC X) sc) w2
    let ra := subf (sum12 X) b
    let smu := mulf (cst _ 0x3DCCCCCD#32) mu
    let rs1 := subf (mulf s1 z1) (in3 smu)
    let rsr := subf (mulf sr zr) (in2 smu)
    let rsc := subf (mulf sc zc) (in2 smu)
    let r1 := addf (addf (subf rx (gOf s1 z1 rs1 rp1)) (inCol (gOf sr zr rsr rpr))) (inRow (gOf sc zc rsc rpc))
    let n := newton (divf z1 s1) (divf zr sr) (divf zc sc) r1 ra
    let dX := n.1
    let ds1 := subf dX rp1
    let dsr := subf (subf (cst _ 0#32) rpr) (sumR dX)
    let dsc := subf (subf (cst _ 0#32) rpc) (sumC dX)
    let dz1 := dzOf s1 z1 rs1 ds1
    let dzr := dzOf sr zr rsr dsr
    let dzc := dzOf sc zc rsc dsc
    let aS := minimumf (ratio3 s1 ds1) (minimumf (ratio2 sr dsr) (ratio2 sc dsc))
    let aZ := minimumf (ratio3 z1 dz1) (minimumf (ratio2 zr dzr) (ratio2 zc dzc))
    let al := mulf (cst _ 0x3F7D70A4#32) (minimumf (cst _ 0x3F800000#32) (minimumf aS aZ))
    (addf X (mulf (in3 al) dX), moved s1 (in3 al) ds1, moved z1 (in3 al) dz1, moved sr (in2 al) dsr,
      moved zr (in2 al) dzr, moved sc (in2 al) dsc, moved zc (in2 al) dzc, addf y (mulf al n.2))

end Emd
-- ==== Proof.BodyKI.lean ====
/-
  The kernel's body as six loads, one pure value and one store: the eighteen trips are the fold of `Emd.step`.
-/
module

public import proofs.«01_k».proof.Proof.Mirror
public import Idealize.ShloMosaic.Lib.Tactic
public import proofs.«01_k».proof.Proof.Gen.KernelIdeal.Skeleton
public import proofs.«01_k».proof.Proof.Gen.KernelIdeal.Frame
public import Idealize.ShloMosaic.Lib.Pipeline.ValueKit

@[expose] public section

set_option maxRecDepth 100000

noncomputable section

namespace Cert.KernelIdeal

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-- One trip of the loop is the pure value `Emd.step` of what it carries. -/
theorem body_eq : @Cert.KernelIdeal.Gen.k0_t1_body = fun (F : FTy → Type) (_ : FloatOps F) (_ : Named F) i a1 h1 a2 h2 a3 h3 a4 h4 a5 h5 a6 h6 a7 h7 v5 v11 v33 v40 _ c =>
    pure (Emd.step (Named.named (F := F) κ "inv_nin" 0x3B638E39#32) v5 v11 v33 v40 c) := by
  sl_kernel_rfl

variable {F : FTy → Type} [FloatOps F] [Named F]

/-- The carry after the eighteen trips, from the six blocks of an iteration of the grid. -/
def lastCarry (v0 v2 v4 v6 v8 v10 : Vec F S16x16 .f32) : Emd.Carry F :=
  Scf.fold (n := k0_t1_loop.trips) (fun _ c => Emd.step (Named.named (F := F) κ "inv_nin" 0x3B638E39#32) (k0_pay6132 v4) (k0_pay6133 v10)
    (k0_pay6134 v0 v2 v6 v8) (k0_pay6137 v4 v10) c)
    (k0_pay1 (F := F), k0_pay2 (F := F), k0_pay3 (F := F), k0_pay4 (F := F), k0_pay5 (F := F), k0_pay6 (F := F), k0_pay7 (F := F), k0_pay8 (F := F))

/-- The block an iteration of the grid stores. -/
def outBlk (v0 v2 v4 v6 v8 v10 : Vec F S16x16 .f32) : Vec F S1x1x16 .f32 :=
  k0_pay15 (k0_pay6134 v0 v2 v6 v8) (k0_pay6135 v4) (k0_pay6136 v10) (lastCarry v0 v2 v4 v6 v8 v10).1

theorem loop1 {α : Type} (i : grid0.Coords) (arg1 : Memref sig .tc .vmem S16x16 .f32) (harg1 : arg1.IsWhole) (arg2 : Memref sig .tc .vmem S16x16 .f32) (harg2 : arg2.IsWhole) (arg3 : Memref sig .tc .vmem S16x16 .f32) (harg3 : arg3.IsWhole) (arg4 : Memref sig .tc .vmem S16x16 .f32) (harg4 : arg4.IsWhole) (arg5 : Memref sig .tc .vmem S16x16 .f32) (harg5 : arg5.IsWhole) (arg6 : Memref sig .tc .vmem S16x16 .f32) (harg6 : arg6.IsWhole) (arg7 : Memref sig .tc .vmem S1x1x16 .f32) (harg7 : arg7.IsWhole) (v5 v11 v33 v40) (init)
    (k : _ → Prog (TpuEff nD τ sig (Elt F) Λ₀ .tc) α) :
    (Scf.Loop.for k0_t1_loop k0_t1_ok init (k0_t1_body i arg1 harg1 arg2 harg2 arg3 harg3 arg4 harg4 arg5 harg5 arg6 harg6 arg7 harg7 v5 v11 v33 v40) >>= k)
      = k (Scf.fold (n := k0_t1_loop.trips) (fun _ c => Emd.step (Named.named (F := F) κ "inv_nin" 0x3B638E39#32) v5 v11 v33 v40 c) init) := by
  rw [body_eq]
  exact Scf.for_pure_bind _ _ _ _ _ _ _ (fun _ _ => rfl) k

theorem trips2 : k0_t2_loop.trips = 0 := by decide

theorem for_none {σ α : Type} {w : Nat} (l : Scf.Loop w) (hok : l.OK) (init : σ) (h : l.trips = 0) (body : Fin l.trips → σ → Prog (TpuEff nD τ sig (Elt F) Λ₀ .tc) σ)
    (k : σ → Prog (TpuEff nD τ sig (Elt F) Λ₀ .tc) α) : (Scf.Loop.for l hok init body >>= k) = k init := by
  have := Scf.for_pure_bind l.lb l.ub l.st hok init body (fun _ c => c) (fun j => absurd j.2 (by have : Scf.trips l.lb l.ub l.st = 0 := h; omega)) k
  refine this.trans (congrArg k ?_)
  rw [Scf.fold_eq]
  generalize List.finRange (Scf.trips l.lb l.ub l.st) = L
  induction L with
  | nil => rfl
  | cons a l ih => exact ih

/-- The body as loads, one value, one store. -/
theorem kernel_eq : cc0__emd_kernel (F := F) = fun i arg1 harg1 arg2 harg2 arg3 harg3 arg4 harg4 arg5 harg5 arg6 harg6 arg7 harg7 => (do
  let v0 : Vec F S16x16 .f32 ← Prog.lift (.load arg1 (Rect.unit (s := S16x16) ![0, 0] S16x16.size inb_S16x16_S16x16_0_0).toLoadRect (View.loadsAt_vmem h_S16x16))
  let v2 : Vec F S16x16 .f32 ← Prog.lift (.load arg2 (Rect.unit (s := S16x16) ![0, 0] S16x16.size inb_S16x16_S16x16_0_0).toLoadRect (View.loadsAt_vmem h_S16x16))
  let v4 : Vec F S16x16 .f32 ← Prog.lift (.load arg3 (Rect.unit (s := S16x16) ![0, 0] S16x16.size inb_S16x16_S16x16_0_0).toLoadRect (View.loadsAt_vmem h_S16x16))
  let v6 : Vec F S16x16 .f32 ← Prog.lift (.load arg4 (Rect.unit (s := S16x16) ![0, 0] S16x16.size inb_S16x16_S16x16_0_0).toLoadRect (View.loadsAt_vmem h_S16x16))
  let v8 : Vec F S16x16 .f32 ← Prog.lift (.load arg5 (Rect.unit (s := S16x16) ![0, 0] S16x16.size inb_S16x16_S16x16_0_0).toLoadRect (View.loadsAt_vmem h_S16x16))
  let v10 : Vec F S16x16 .f32 ← Prog.lift (.load arg6 (Rect.unit (s := S16x16) ![0, 0] S16x16.size inb_S16x16_S16x16_0_0).toLoadRect (View.loadsAt_vmem h_S16x16))
  let v64 : Vec F S1x1x16 .f32 ← Prog.lift (.load arg7 (Rect.unit (s := S1x1x16) ![0, 0, 0] S1x1x16.size inb_S1x1x16_S1x1x16_0_0_0).toLoadRect (View.loadsAt_vmem h_S1x1x16))
  Prog.lift (.store arg7 (Rect.unit (s := S1x1x16) ![0, 0, 0] S1x1x16.size inb_S1x1x16_S1x1x16_0_0_0) (outBlk v0 v2 v4 v6 v8 v10) Finset.univ (View.stores_vmem_bits_univ h_S1x1x16 rfl) (.inl rfl))
  .ret ⟨⟩) := by
  rw [cc0__emd_kernel_eq_skeleton]
  funext i arg1 harg1 arg2 harg2 arg3 harg3 arg4 harg4 arg5 harg5 arg6 harg6 arg7 harg7
  unfold cc0__emd_kernel_skel
  simp only [loop1, for_none _ _ _ trips2]
  rw [k0_part429_eq_skeleton]
  rfl

theorem whole_load (M : Memref sig .tc .vmem S16x16 .f32) (h : M.IsWhole) (x : Vec F S16x16 .f32) :
    View.readAt (Elt F) M.view (Rect.unit (s := S16x16) ![0, 0] S16x16.size inb_S16x16_S16x16_0_0).toLoadRect (h.unread x) = x :=
  (View.readAt_eq_ld _ _ _).trans ((congrArg (fun y => View.ld y _) (h.read_unread x)).trans (View.ld_unit_lit' _ _ (by decide)))

/-- The body from whole staging buffers: the inputs are kept, the result block is `outBlk` of them. -/
theorem kernelRun (c : Dev nD) (i : grid0.Coords) (M1 : Memref sig .tc .vmem S16x16 .f32) (h1 : M1.IsWhole) (M2 : Memref sig .tc .vmem S16x16 .f32) (h2 : M2.IsWhole)
    (M3 : Memref sig .tc .vmem S16x16 .f32) (h3 : M3.IsWhole) (M4 : Memref sig .tc .vmem S16x16 .f32) (h4 : M4.IsWhole) (M5 : Memref sig .tc .vmem S16x16 .f32) (h5 : M5.IsWhole)
    (M6 : Memref sig .tc .vmem S16x16 .f32) (h6 : M6.IsWhole) (M7 : Memref sig .tc .vmem S1x1x16 .f32) (h7 : M7.IsWhole)
    (x1 x2 x3 x4 x5 x6 : Vec F S16x16 .f32) (E : Set ℕ) (K : PUnit → sProp (MT nD τ sig Unit (Elt F) ℕ (UR sig nD τ) ℕ)) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ (∃ d, owns (c : Thread nD τ) M7 fullShare d)
        ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare (outBlk x1 x2 x3 x4 x5 x6)) -∗ K ⟨⟩))
      ⊢ wp frame (wpE (defs₀ (F := F)) Variants.none c none) E (cc0__emd_kernel i M1 h1 M2 h2 M3 h3 M4 h4 M5 h5 M6 h6 M7 h7) K := by
  rw [kernel_eq]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := h1.eq_unread hf1; obtain rfl := h2.eq_unread hf2; obtain rfl := h3.eq_unread hf3
  obtain rfl := h4.eq_unread hf4; obtain rfl := h5.eq_unread hf5; obtain rfl := h6.eq_unread hf6
  sl_exec!
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr; swap; · iexact H7
  ipureintro
  unfold kernelRun.sl.H7_1
  refine (View.read_writes_junk_eq_canon _ _).trans ?_
  refine (View.canon_cons_unit_lit' _ _ _ (by decide)).trans ?_
  rw [whole_load M1 h1, whole_load M2 h2, whole_load M3 h3, whole_load M4 h4, whole_load M5 h5, whole_load M6 h6]

variable (m : (ℓ : Loc nD τ sig) → Buf (Elt F) ℓ) (ρ : Dev nD → PrngReg)

/-- The block stored at point `t`, from the input blocks there. -/
def outAt (c : Dev nD) (t : Fin cfg0.N) : Vec F S1x1x16 .f32 :=
  outBlk (iblk m c 0 t) (iblk m c 1 t) (iblk m c 2 t) (iblk m c 3 t) (iblk m c 4 t) (iblk m c 5 t)

/-- What every window's staging buffer holds after the body: inputs their blocks, the result `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body at every point of the grid, from the staging buffers as the pipeline leaves them. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6]
  unfold outAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernelRun c _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- The whole program runs to the end, its arrays at what the points' bodies leave, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

/-- The program leaves its two arguments as they were, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.KernelIdeal
-- ==== Proof.Lift.lean ====
module

public import proofs.«01_k».proof.Proof.Mirror
public import Idealize.ShloMosaic.Lib.Pointwise
public import Mathlib.Tactic.Ring
public import Mathlib.Tactic.FieldSimp
public import Mathlib.Analysis.SpecialFunctions.Pow.Real

/-!
# The pair arithmetic over the reals

On real entries a pair's low part is zero and each pair operation is the plain operation.
-/

@[expose] public section
noncomputable section

namespace Emd
open Idealize.ShloMosaic

/-- The real a word stands for. -/
def wr (w : BitVec 32) : ℝ := (Ideal.ofBits .f32 w).toReal

theorem w0 : Ideal.ofBits .f32 0#32 = ((0 : ℝ) : EReal) := by
  simp [Ideal.ofBits, Ideal.ieee, -EReal.coe_mul]
theorem w1 : Ideal.ofBits .f32 0x3F800000#32 = ((1 : ℝ) : EReal) := by
  simp [Ideal.ofBits, Ideal.ieee, -EReal.coe_mul]; norm_num
theorem w2 : Ideal.ofBits .f32 0x40000000#32 = ((2 : ℝ) : EReal) := by
  simp [Ideal.ofBits, Ideal.ieee, -EReal.coe_mul]; norm_num
theorem winf : Ideal.ofBits .f32 0x7F800000#32 = (⊤ : EReal) := by
  simp [Ideal.ofBits, Ideal.ieee, -EReal.coe_mul]

/-- A word whose exponent is not all ones stands for a real. -/
theorem w_real (w : BitVec 32) (h : (w.extractLsb' 23 8).toNat ≠ 255) : Ideal.ofBits .f32 w = ((wr w : ℝ) : EReal) := by
  unfold wr
  have : ∃ r : ℝ, Ideal.ofBits .f32 w = (r : EReal) := by
    simp only [Ideal.ofBits, Ideal.ieee]
    rw [if_neg (by simpa using h)]
    split_ifs
    all_goals exact ⟨_, rfl⟩
  obtain ⟨r, hr⟩ := this
  rw [hr, EReal.toReal_coe]

/-- A positive normal word stands for a positive real. -/
theorem wr_pos (w : BitVec 32) (h : (w.extractLsb' 23 8).toNat ≠ 255) (h0 : (w.extractLsb' 23 8).toNat ≠ 0)
    (hs : (w.extractLsb' 31 1 == 1#1) = false) : 0 < wr w := by
  unfold wr
  simp only [Ideal.ofBits, Ideal.ieee]
  rw [if_neg (by simpa using h), if_neg h0]
  simp only [Nat.reduceAdd, hs, Bool.false_eq_true, if_false, EReal.toReal_coe]
  positivity

section
variable {s sa sb t : Shape}

/-- Real entries as floats. -/
def L (f : s.Idx → ℝ) : FVec Ideal s .f32 := fun i => ((f i : ℝ) : EReal)

theorem L_add (f g : s.Idx → ℝ) : addf (L f) (L g) = L fun i => f i + g i := by
  funext i; exact (EReal.coe_add _ _).symm
theorem L_sub (f g : s.Idx → ℝ) : subf (L f) (L g) = L fun i => f i - g i := by
  funext i; exact (EReal.coe_sub _ _).symm
theorem L_mul (f g : s.Idx → ℝ) : mulf (L f) (L g) = L fun i => f i * g i := by
  funext i; exact (EReal.coe_mul _ _).symm
/-- The quotient of reals by a nonzero real. -/
theorem div_real (x y : ℝ) (h : y ≠ 0) : Ideal.div (x : EReal) (y : EReal) = ((x / y : ℝ) : EReal) := by
  unfold Ideal.div
  rw [if_neg (by exact_mod_cast h), div_eq_mul_inv, EReal.coe_mul, EReal.coe_inv]
/-- The square root of a nonnegative real. -/
theorem sqrt_real (x : ℝ) (h : 0 ≤ x) : Ideal.sqrt (x : EReal) = ((√x : ℝ) : EReal) := by
  show (if x < 0 then ⊥ else ((√x : ℝ) : EReal)) = _
  rw [if_neg (not_lt.2 h)]
theorem L_div (f g : s.Idx → ℝ) (h : ∀ i, g i ≠ 0) : divf (L f) (L g) = L fun i => f i / g i := by
  funext i; exact div_real _ _ (h i)
theorem L_sqrt (f : s.Idx → ℝ) (h : ∀ i, 0 ≤ f i) : sqrt (L f) = L fun i => √(f i) := by
  funext i; exact sqrt_real _ (h i)
theorem L_cst (w : BitVec 32) (r : ℝ) (h : Ideal.ofBits .f32 w = (r : EReal)) : cst (F := Ideal) s w = L fun _ => r := by
  funext i; exact h
theorem L_app (e : Emb s t) (f : s.Idx → ℝ) : e.app (L f) = L (e.app f) := by cases e <;> rfl

/-- A real pair: the low part is zero. -/
def D (f : s.Idx → ℝ) : DF Ideal s := (L f, L fun _ => 0)

theorem L_zero : cst (F := Ideal) s 0#32 = L fun _ => 0 := L_cst _ _ w0
theorem L_one : cst (F := Ideal) s 0x3F800000#32 = L fun _ => 1 := L_cst _ _ w1
theorem L_two : cst (F := Ideal) s 0x40000000#32 = L fun _ => 2 := L_cst _ _ w2
theorem L_spl : cst (F := Ideal) s 0x45800800#32 = L fun _ => wr 0x45800800#32 := L_cst _ _ (w_real _ (by decide))

theorem D_ext (p q : s.Idx → ℝ) (f : s.Idx → ℝ) (hp : ∀ i, p i = f i) (hq : ∀ i, q i = 0) : ((L p, L q) : DF Ideal s) = D f := by
  have : p = f := funext hp
  have h2 : q = fun _ => 0 := funext hq
  rw [this, h2]; rfl

/-- The sum of real pairs whatever their low parts. -/
theorem dfAdd_L (f f2 g g2 : s.Idx → ℝ) : dfAdd (F := Ideal) (L f, L f2) (L g, L g2) = D fun i => f i + f2 i + (g i + g2 i) := by
  simp only [dfAdd, twoSum, qts, L_add, L_sub]
  refine D_ext _ _ _ (fun i => ?_) (fun i => ?_) <;> ring
theorem dfAdd_D (f g : s.Idx → ℝ) : dfAdd (D f) (D g) = D fun i => f i + g i := by
  unfold D
  rw [dfAdd_L]
  exact D_ext _ _ _ (fun i => by ring) (fun i => rfl)
theorem dfNeg_D (f : s.Idx → ℝ) : dfNeg (D f) = D fun i => - f i := by
  simp only [dfNeg, D, L_zero, L_sub]
  refine D_ext _ _ _ (fun i => ?_) (fun i => ?_) <;> ring
theorem dfSub_D (f g : s.Idx → ℝ) : dfSub (D f) (D g) = D fun i => f i - g i := by
  rw [dfSub, dfNeg_D, dfAdd_D]; simp only [sub_eq_add_neg]
theorem dfOf_L (f : s.Idx → ℝ) : dfOf (L f) = D f := by
  simp only [dfOf, D, L_zero]
theorem app_mul (e : Emb s t) (f g : s.Idx → ℝ) (i : t.Idx) : e.app (fun i => f i * g i) i = e.app f i * e.app g i := by
  cases e <;> rfl
theorem app_sub (e : Emb s t) (f g : s.Idx → ℝ) (i : t.Idx) : e.app (fun i => f i - g i) i = e.app f i - e.app g i := by
  cases e <;> rfl
theorem app_const (e : Emb s t) (c : ℝ) (i : t.Idx) : e.app (fun _ => c) i = c := by
  cases e <;> rfl
theorem twoProd_L (ea : Emb sa t) (eb : Emb sb t) (f : sa.Idx → ℝ) (g : sb.Idx → ℝ) :
    twoProd ea eb (L f) (L g) = D fun i => ea.app f i * eb.app g i := by
  simp only [twoProd, split, L_spl, L_add, L_sub, L_mul, L_app]
  refine D_ext _ _ _ (fun i => rfl) (fun i => ?_)
  simp only [app_mul, app_sub, app_const]
  ring
theorem dfMul_D (ea : Emb sa t) (eb : Emb sb t) (f : sa.Idx → ℝ) (g : sb.Idx → ℝ) :
    dfMul ea eb (D f) (D g) = D fun i => ea.app f i * eb.app g i := by
  simp only [dfMul, D, twoProd_L, qts, L_add, L_sub, L_mul, L_app, app_const]
  refine D_ext _ _ _ (fun i => ?_) (fun i => ?_) <;> ring
theorem dfMulF_D (f g : s.Idx → ℝ) : dfMulF (D f) (L g) = D fun i => f i * g i := by
  simp only [dfMulF, D, twoProd_L, qts, L_add, L_sub, L_mul, Emb.app]
  refine D_ext _ _ _ (fun i => ?_) (fun i => ?_) <;> ring
theorem qts_L (f g : s.Idx → ℝ) : qts (F := Ideal) (L f) (L g) = D fun i => f i + g i := by
  simp only [qts, L_add, L_sub]
  refine D_ext _ _ _ (fun i => ?_) (fun i => ?_) <;> ring
theorem D1 (f : s.Idx → ℝ) : (D f).1 = L f := rfl
theorem D2 (f : s.Idx → ℝ) : (D f).2 = L fun _ => 0 := rfl
theorem D_congr (f g : s.Idx → ℝ) (h : ∀ i, f i = g i) : D f = D g := congrArg D (funext h)
theorem dfDiv_D (f g : s.Idx → ℝ) (h : ∀ i, g i ≠ 0) : dfDiv (D f) (D g) = D fun i => f i / g i := by
  simp only [dfDiv, D1, L_div _ _ h, dfMulF_D, dfSub_D, qts_L]
  unfold D
  rw [L_zero, dfAdd_L]
  refine D_ext _ _ _ (fun i => ?_) (fun i => rfl)
  have := h i
  field_simp
  ring
theorem dfRecip_D (g : s.Idx → ℝ) (h : ∀ i, g i ≠ 0) : dfRecip (D g) = D fun i => 1 / g i := by
  simp only [dfRecip, D1, D2, L_one, L_two, L_div _ _ h, L_mul, L_sub, twoProd_L, qts_L]
  refine D_congr _ _ fun i => ?_
  have := h i
  simp only [Emb.app]
  field_simp
  ring
theorem dfSqrt_D (g : s.Idx → ℝ) (h : ∀ i, 0 < g i) : dfSqrt (D g) = D fun i => √(g i) := by
  have hq : ∀ i, 2 * √(g i) ≠ 0 := fun i => (mul_pos two_pos (Real.sqrt_pos.2 (h i))).ne'
  simp only [dfSqrt, D1, L_sqrt _ (fun i => (h i).le), twoProd_L, dfSub_D, L_two, L_mul, L_div _ _ hq, qts_L]
  refine D_congr _ _ fun i => ?_
  simp only [Emb.app, Real.mul_self_sqrt (h i).le, sub_self, zero_div, add_zero]
end

end Emd
-- ==== Proof.Layer.lean ====
module

public import proofs.«01_k».proof.Proof.Lift

/-!
# The step's layout changes on entries named by their coordinates
-/

@[expose] public section
noncomputable section

namespace Emd
open Idealize.ShloMosaic

section
variable {a b c : ℕ}

/-- A cube of reals by coordinates. -/
def u3 (f : Fin a → Fin b → Fin c → ℝ) : (T3 a b c).Idx → ℝ := fun i => f (i 0) (i 1) (i 2)
/-- A matrix of reals by coordinates. -/
def u2 (f : Fin a → Fin b → ℝ) : (T2 a b).Idx → ℝ := fun i => f (i 0) (i 1)

theorem dfAdd_u3 (f g : Fin a → Fin b → Fin c → ℝ) : dfAdd (D (u3 f)) (D (u3 g)) = D (u3 fun x y z => f x y z + g x y z) :=
  dfAdd_D _ _
theorem dfSub_u3 (f g : Fin a → Fin b → Fin c → ℝ) : dfSub (D (u3 f)) (D (u3 g)) = D (u3 fun x y z => f x y z - g x y z) :=
  dfSub_D _ _
theorem dfNeg_u3 (f : Fin a → Fin b → Fin c → ℝ) : dfNeg (D (u3 f)) = D (u3 fun x y z => - f x y z) :=
  dfNeg_D _
theorem dfRecip_u3 (f : Fin a → Fin b → Fin c → ℝ) (h : ∀ x y z, f x y z ≠ 0) :
    dfRecip (D (u3 f)) = D (u3 fun x y z => 1 / f x y z) :=
  dfRecip_D _ fun i => h (i 0) (i 1) (i 2)
theorem dfSqrt_u3 (f : Fin a → Fin b → Fin c → ℝ) (h : ∀ x y z, 0 < f x y z) :
    dfSqrt (D (u3 f)) = D (u3 fun x y z => √(f x y z)) :=
  dfSqrt_D _ fun i => h (i 0) (i 1) (i 2)
theorem dfDiv_u3 (f g : Fin a → Fin b → Fin c → ℝ) (h : ∀ x y z, g x y z ≠ 0) :
    dfDiv (D (u3 f)) (D (u3 g)) = D (u3 fun x y z => f x y z / g x y z) :=
  dfDiv_D _ _ fun i => h (i 0) (i 1) (i 2)
theorem L_add3 (f g : Fin a → Fin b → Fin c → ℝ) : addf (L (u3 f)) (L (u3 g)) = L (u3 fun x y z => f x y z + g x y z) :=
  L_add _ _
theorem L_sub3 (f g : Fin a → Fin b → Fin c → ℝ) : subf (L (u3 f)) (L (u3 g)) = L (u3 fun x y z => f x y z - g x y z) :=
  L_sub _ _
theorem L_mul3 (f g : Fin a → Fin b → Fin c → ℝ) : mulf (L (u3 f)) (L (u3 g)) = L (u3 fun x y z => f x y z * g x y z) :=
  L_mul _ _
theorem L_div3 (f g : Fin a → Fin b → Fin c → ℝ) (h : ∀ x y z, g x y z ≠ 0) :
    divf (L (u3 f)) (L (u3 g)) = L (u3 fun x y z => f x y z / g x y z) :=
  L_div _ _ fun i => h (i 0) (i 1) (i 2)
theorem L_add2 (f g : Fin a → Fin b → ℝ) : addf (L (u2 f)) (L (u2 g)) = L (u2 fun x y => f x y + g x y) :=
  L_add _ _
theorem L_sub2 (f g : Fin a → Fin b → ℝ) : subf (L (u2 f)) (L (u2 g)) = L (u2 fun x y => f x y - g x y) :=
  L_sub _ _
theorem L_mul2 (f g : Fin a → Fin b → ℝ) : mulf (L (u2 f)) (L (u2 g)) = L (u2 fun x y => f x y * g x y) :=
  L_mul _ _
theorem L_div2 (f g : Fin a → Fin b → ℝ) (h : ∀ x y, g x y ≠ 0) :
    divf (L (u2 f)) (L (u2 g)) = L (u2 fun x y => f x y / g x y) :=
  L_div _ _ fun i => h (i 0) (i 1)

/-- Two real values are one where they agree entry by entry. -/
theorem L_congr {s : Shape} (f g : s.Idx → ℝ) (h : ∀ i, f i = g i) : L f = L g := congrArg L (funext h)

/-- A layout change of both parts of a real pair. -/
theorem both_D {s t : Shape} (φ : FVec Ideal s .f32 → FVec Ideal t .f32) (f : s.Idx → ℝ) (g : t.Idx → ℝ)
    (h : φ (L f) = L g) (h0 : φ (L fun _ => 0) = L fun _ => 0) : both φ (D f) = D g := by
  simp only [both, D1, D2, h, h0]; rfl

/-- The block of a real value. -/
theorem slF_L {s t : Shape} (off : Fin s.rank → ℕ) (h : s.Slices off t) (f : s.Idx → ℝ) :
    slF t off (L f) = L (extractStridedSlice t off f h) := by
  unfold slF sl
  rw [dif_pos h]; rfl
/-- The block of a real pair. -/
theorem both_slF {s t : Shape} (off : Fin s.rank → ℕ) (h : s.Slices off t) (f : s.Idx → ℝ) :
    both (slF t off) (D f) = D (extractStridedSlice t off f h) :=
  both_D _ _ _ (slF_L off h f) (slF_L off h _)

/-- Blocks of a cube. -/
theorem slices3 {a b c a' b' c' o0 o1 o2 : ℕ} (h0 : o0 + a' ≤ a) (h1 : o1 + b' ≤ b) (h2 : o2 + c' ≤ c) :
    (T3 a b c).Slices ![o0, o1, o2] (T3 a' b' c') := by
  refine ⟨rfl, fun i => ?_⟩
  match i with
  | ⟨0, _⟩ => exact h0
  | ⟨1, _⟩ => exact h1
  | ⟨2, _⟩ => exact h2

/-- A block of a cube by coordinates. -/
theorem both_sl3 {a b c a' b' c' o0 o1 o2 : ℕ} (h0 : o0 + a' ≤ a) (h1 : o1 + b' ≤ b) (h2 : o2 + c' ≤ c)
    (f : Fin a → Fin b → Fin c → ℝ) : both (slF (T3 a' b' c') ![o0, o1, o2]) (D (u3 f))
      = D (u3 fun x y z => f ⟨o0 + x, by omega⟩ ⟨o1 + y, by omega⟩ ⟨o2 + z, by omega⟩) := by
  rw [both_slF _ (slices3 h0 h1 h2)]
  rfl

/-- A place offset by a place of extent one. -/
theorem fin_at {n : ℕ} (j : Fin n) (z : Fin 1) (h : j.val + z.val < n) : (⟨j.val + z.val, h⟩ : Fin n) = j :=
  Fin.ext (show j.val + z.val = j.val by omega)
/-- A place offset by nothing. -/
theorem fin_zero_add {n : ℕ} (j : Fin n) (h : 0 + j.val < n) : (⟨0 + j.val, h⟩ : Fin n) = j :=
  Fin.ext (Nat.zero_add _)
/-- A function of three places at equal places. -/
theorem at3 {α β γ δ : Type} (f : α → β → γ → δ) {x x' : α} {y y' : β} {z z' : γ} (hx : x = x') (hy : y = y') (hz : z = z') :
    f x y z = f x' y' z' := by rw [hx, hy, hz]

/-- One lane of a cube. -/
theorem slF_lane (j : Fin c) (f : Fin a → Fin b → Fin c → ℝ) :
    slF (F := Ideal) (T3 a b 1) ![0, 0, j.val] (L (u3 f)) = L (u3 fun x y (_ : Fin 1) => f x y j) := by
  rw [slF_L _ (slices3 (by omega) (by omega) (by omega))]
  refine L_congr _ _ fun i => ?_
  exact at3 f (fin_zero_add (n := a) _ _) (fin_zero_add (n := b) _ _) (fin_at j _ _)
/-- One row of a cube. -/
theorem slF_row (j : Fin b) (f : Fin a → Fin b → Fin c → ℝ) :
    slF (F := Ideal) (T3 a 1 c) ![0, j.val, 0] (L (u3 f)) = L (u3 fun x (_ : Fin 1) z => f x j z) := by
  rw [slF_L _ (slices3 (by omega) (by omega) (by omega))]
  refine L_congr _ _ fun i => ?_
  exact at3 f (fin_zero_add (n := a) _ _) (fin_at j _ _) (fin_zero_add (n := c) _ _)
/-- One entry of each layer of a cube. -/
theorem slF_entry (j : Fin b) (k : Fin c) (f : Fin a → Fin b → Fin c → ℝ) :
    slF (F := Ideal) (T3 a 1 1) ![0, j.val, k.val] (L (u3 f)) = L (u3 fun x (_ : Fin 1) (_ : Fin 1) => f x j k) := by
  rw [slF_L _ (slices3 (by omega) (by omega) (by omega))]
  refine L_congr _ _ fun i => ?_
  exact at3 f (fin_zero_add (n := a) _ _) (fin_at j _ _) (fin_at k _ _)
theorem both_lane (j : Fin c) (f : Fin a → Fin b → Fin c → ℝ) :
    both (slF (F := Ideal) (T3 a b 1) ![0, 0, j.val]) (D (u3 f)) = D (u3 fun x y (_ : Fin 1) => f x y j) :=
  both_D _ _ _ (slF_lane j f) (slF_lane j fun _ _ _ => 0)
theorem both_row (j : Fin b) (f : Fin a → Fin b → Fin c → ℝ) :
    both (slF (F := Ideal) (T3 a 1 c) ![0, j.val, 0]) (D (u3 f)) = D (u3 fun x (_ : Fin 1) z => f x j z) :=
  both_D _ _ _ (slF_row j f) (slF_row j fun _ _ _ => 0)
theorem both_entry (j : Fin b) (k : Fin c) (f : Fin a → Fin b → Fin c → ℝ) :
    both (slF (F := Ideal) (T3 a 1 1) ![0, j.val, k.val]) (D (u3 f)) = D (u3 fun x (_ : Fin 1) (_ : Fin 1) => f x j k) :=
  both_D _ _ _ (slF_entry j k f) (slF_entry j k fun _ _ _ => 0)

theorem halfLanes_D (h : ℕ) (hc : c = h + h) (f : Fin a → Fin b → Fin c → ℝ) : halfLanes h (D (u3 f))
    = D (u3 fun x y z => f x y ⟨z, by omega⟩ + f x y ⟨h + z, by omega⟩) := by
  unfold halfLanes
  rw [both_sl3 (by omega) (by omega) (by omega), both_sl3 (by omega) (by omega) (by omega), dfAdd_u3]
  refine D_congr _ _ fun i => ?_
  simp only [u3, Nat.zero_add, Fin.eta]
  rfl
theorem halfSub_D (h : ℕ) (hc : b = h + h) (f : Fin a → Fin b → Fin c → ℝ) : halfSub h (D (u3 f))
    = D (u3 fun x y z => f x ⟨y, by omega⟩ z + f x ⟨h + y, by omega⟩ z) := by
  unfold halfSub
  rw [both_sl3 (by omega) (by omega) (by omega), both_sl3 (by omega) (by omega) (by omega), dfAdd_u3]
  refine D_congr _ _ fun i => ?_
  simp only [u3, Nat.zero_add, Fin.eta]
  rfl

/-- Sixteen terms added by halving. -/
theorem sum16 (f : Fin 16 → ℝ) (z : Fin 1) : ∑ k, f k =
    (((f ⟨z, by omega⟩ + f ⟨8 + z, by omega⟩) + (f ⟨4 + z, by omega⟩ + f ⟨8 + (4 + z), by omega⟩))
      + ((f ⟨2 + z, by omega⟩ + f ⟨8 + (2 + z), by omega⟩) + (f ⟨4 + (2 + z), by omega⟩ + f ⟨8 + (4 + (2 + z)), by omega⟩)))
    + (((f ⟨1 + z, by omega⟩ + f ⟨8 + (1 + z), by omega⟩) + (f ⟨4 + (1 + z), by omega⟩ + f ⟨8 + (4 + (1 + z)), by omega⟩))
      + ((f ⟨2 + (1 + z), by omega⟩ + f ⟨8 + (2 + (1 + z)), by omega⟩)
        + (f ⟨4 + (2 + (1 + z)), by omega⟩ + f ⟨8 + (4 + (2 + (1 + z))), by omega⟩))) := by
  obtain rfl : z = 0 := Subsingleton.elim _ _
  simp only [Fin.sum_univ_succ, Fin.val_zero, Nat.add_zero, Finset.univ_eq_empty, Finset.sum_empty]
  change f 0 + (f 1 + (f 2 + (f 3 + (f 4 + (f 5 + (f 6 + (f 7 + (f 8 + (f 9 + (f 10 + (f 11 + (f 12 + (f 13 + (f 14 + (f 15 + 0)))))))))))))))
    = (((f 0 + f 8) + (f 4 + f 12)) + ((f 2 + f 10) + (f 6 + f 14))) + (((f 1 + f 9) + (f 5 + f 13)) + ((f 3 + f 11) + (f 7 + f 15)))
  ring

/-- The sum along the lanes. -/
theorem sumLanes_D (f : Fin a → Fin b → Fin 16 → ℝ) : sumLanes (D (u3 f)) = D (u3 fun x y (_ : Fin 1) => ∑ k, f x y k) := by
  unfold sumLanes
  rw [halfLanes_D 8 rfl, halfLanes_D 4 rfl, halfLanes_D 2 rfl, halfLanes_D 1 rfl]
  refine D_congr _ _ fun i => ?_
  exact (sum16 _ (i 2)).symm
/-- The sum along the sublanes. -/
theorem sumSub_D (f : Fin a → Fin 16 → Fin c → ℝ) : sumSub (D (u3 f)) = D (u3 fun x (_ : Fin 1) z => ∑ k, f x k z) := by
  unfold sumSub
  rw [halfSub_D 8 rfl, halfSub_D 4 rfl, halfSub_D 2 rfl, halfSub_D 1 rfl]
  refine D_congr _ _ fun i => ?_
  exact (sum16 (fun k => f (i 0) k (i 2)) (i 1)).symm

end

/-! ### Operands entering a product -/

variable {α : Type}

/-- Which coordinates an operand of extents `d` is read at. -/
def at1 {n : ℕ} (m : ℕ) (x : Fin n) : ℕ := if m = 1 then 0 else x

theorem app_id3 {a b c : ℕ} (f : Fin a → Fin b → Fin c → ℝ) : Emb.app .id (u3 f) = u3 f := rfl
theorem app_eCol (f : Fin 16 → Fin 16 → Fin 1 → ℝ) : eCol.app (u3 f) = u3 fun x y _ => f x y 0 := by
  funext i; unfold eCol Emb.app; idx_vars i; pointwise [u3]
theorem app_eRow (f : Fin 16 → Fin 1 → Fin 16 → ℝ) : eRow.app (u3 f) = u3 fun x _ z => f x 0 z := by
  funext i; unfold eRow Emb.app; idx_vars i; pointwise [u3]
theorem app_b111 (h : (T3 16 1 1).Broadcasts (T3 16 16 1)) (f : Fin 16 → Fin 1 → Fin 1 → ℝ) :
    (Emb.bc h).app (u3 f) = u3 fun x _ _ => f x 0 0 := by
  funext i; unfold Emb.app; idx_vars i; pointwise [u3]
theorem app_b112 (h : (T3 16 1 1).Broadcasts (T3 16 16 2)) (f : Fin 16 → Fin 1 → Fin 1 → ℝ) :
    (Emb.bc h).app (u3 f) = u3 fun x _ _ => f x 0 0 := by
  funext i; unfold Emb.app; idx_vars i; pointwise [u3]
theorem app_b11r (h : (T3 16 1 1).Broadcasts (T3 16 1 16)) (f : Fin 16 → Fin 1 → Fin 1 → ℝ) :
    (Emb.bc h).app (u3 f) = u3 fun x _ _ => f x 0 0 := by
  funext i; unfold Emb.app; idx_vars i; pointwise [u3]
theorem app_bcol2 (h : (T3 16 16 1).Broadcasts (T3 16 16 2)) (f : Fin 16 → Fin 16 → Fin 1 → ℝ) :
    (Emb.bc h).app (u3 f) = u3 fun x y _ => f x y 0 := by
  funext i; unfold Emb.app; idx_vars i; pointwise [u3]
theorem app_brow2 (h : (T3 16 1 2).Broadcasts (T3 16 16 2)) (f : Fin 16 → Fin 1 → Fin 2 → ℝ) :
    (Emb.bc h).app (u3 f) = u3 fun x _ z => f x 0 z := by
  funext i; unfold Emb.app; idx_vars i; pointwise [u3]

/-- The product of two real pairs by coordinates. -/
theorem dfMul_u3 {a b c a' b' c' a'' b'' c'' : ℕ} (ea : Emb (T3 a b c) (T3 a'' b'' c'')) (eb : Emb (T3 a' b' c') (T3 a'' b'' c''))
    (f : Fin a → Fin b → Fin c → ℝ) (g : Fin a' → Fin b' → Fin c' → ℝ) {f' g' : Fin a'' → Fin b'' → Fin c'' → ℝ}
    (hf : ea.app (u3 f) = u3 f') (hg : eb.app (u3 g) = u3 g') :
    dfMul ea eb (D (u3 f)) (D (u3 g)) = D (u3 fun x y z => f' x y z * g' x y z) := by
  rw [dfMul_D, hf, hg]; rfl

theorem trCube_L (f : Fin 16 → Fin 16 → Fin 16 → ℝ) : trCube (L (u3 f)) = L (u3 fun x y z => f x z y) := by
  funext i; unfold trCube; idx_vars i; pointwise [L, u3]
theorem trRow_L (f : Fin 16 → Fin 1 → Fin 16 → ℝ) : trRow (L (u3 f)) = L (u3 fun x y (_ : Fin 1) => f x 0 y) := by
  funext i; unfold trRow; idx_vars i; pointwise [L, u3]
theorem trCol_L (f : Fin 16 → Fin 16 → Fin 1 → ℝ) : trCol (L (u3 f)) = L (u3 fun x (_ : Fin 1) z => f x z 0) := by
  funext i; unfold trCol; idx_vars i; pointwise [L, u3]
theorem both_trCube (f : Fin 16 → Fin 16 → Fin 16 → ℝ) : both trCube (D (u3 f)) = D (u3 fun x y z => f x z y) :=
  both_D _ _ _ (trCube_L f) rfl
theorem both_trCol (f : Fin 16 → Fin 16 → Fin 1 → ℝ) : both trCol (D (u3 f)) = D (u3 fun x (_ : Fin 1) z => f x z 0) :=
  both_D _ _ _ (trCol_L f) rfl
theorem cat2_L (f g : Fin 16 → Fin 16 → Fin 1 → ℝ) : cat2 (L (u3 f)) (L (u3 g))
    = L (u3 fun x y (z : Fin 2) => if z = 0 then f x y 0 else g x y 0) := by
  funext i
  obtain ⟨x, y, z, rfl⟩ : ∃ (x : Fin 16) (y : Fin 16) (z : Fin 2), i = ix3 x y z := ⟨i 0, i 1, i 2, eq_ix3 i⟩
  unfold cat2
  pointwise [L, u3]
  by_cases h : z = 0
  · subst h; rfl
  · have h1 : z = 1 := by omega
    subst h1; rfl

/-! ### Masks -/

/-- A choice between real values by a mask. -/
theorem mask_u3 {a b c : ℕ} {m : Shape} (hm : m.Broadcasts (T3 a b c)) (k : IVec m 1) (p : Fin a → Fin b → Fin c → Prop)
    [∀ x y z, Decidable (p x y z)]
    (hp : ∀ x y z, broadcastTo (T3 a b c) (shapeCast m k rfl) hm (ix3 x y z) = 1#1 ↔ p x y z)
    (f g : Fin a → Fin b → Fin c → ℝ) :
    mask (F := Ideal) hm k (L (u3 f)) (L (u3 g)) = L (u3 fun x y z => if p x y z then f x y z else g x y z) := by
  funext i
  obtain ⟨x, y, z, rfl⟩ : ∃ (x : Fin a) (y : Fin b) (z : Fin c), i = ix3 x y z := ⟨i 0, i 1, i 2, eq_ix3 i⟩
  show Scalar.select (broadcastTo (T3 a b c) (shapeCast m k rfl) hm (ix3 x y z)) (L (u3 f) (ix3 x y z)) (L (u3 g) (ix3 x y z)) = _
  by_cases h : p x y z
  · rw [show Scalar.select _ (L (u3 f) (ix3 x y z)) (L (u3 g) (ix3 x y z)) = L (u3 f) (ix3 x y z) from if_pos ((hp x y z).2 h)]
    exact congrArg Real.toEReal (if_pos h).symm
  · rw [show Scalar.select _ (L (u3 f) (ix3 x y z)) (L (u3 g) (ix3 x y z)) = L (u3 g) (ix3 x y z) from if_neg (mt (hp x y z).1 h)]
    exact congrArg Real.toEReal (if_neg h).symm

theorem eq_word : ∀ x j : Fin 16, IntOp.cmpi .eq (BitVec.ofNat 32 x.val) (BitVec.ofNat 32 j.val) = 1#1 ↔ x = j := by decide
theorem gt_word : ∀ x j : Fin 16, IntOp.cmpi .sgt (BitVec.ofNat 32 x.val) (BitVec.ofNat 32 j.val) = 1#1 ↔ j < x := by decide
theorem lt_word : ∀ x j : Fin 16, IntOp.cmpi .slt (BitVec.ofNat 32 x.val) (BitVec.ofNat 32 j.val) = 1#1 ↔ x < j := by decide

theorem mask_colEq (hm : (T3 1 16 1).Broadcasts (T3 16 16 2)) (j : Fin 16) (f g : Fin 16 → Fin 16 → Fin 2 → ℝ) :
    mask (F := Ideal) hm (cmpi .eq colIx (broadcast _ (BitVec.ofNat 32 j.val))) (L (u3 f)) (L (u3 g))
      = L (u3 fun x y z => if y = j then f x y z else g x y z) := by
  refine mask_u3 hm _ (fun _ y z => y = j) (fun x y z => ?_) _ _
  pointwise [colIx]
  exact eq_word y j
theorem mask_colGt (hm : (T3 1 16 1).Broadcasts (T3 16 16 1)) (j : Fin 16) (f g : Fin 16 → Fin 16 → Fin 1 → ℝ) :
    mask (F := Ideal) hm (cmpi .sgt colIx (broadcast _ (BitVec.ofNat 32 j.val))) (L (u3 f)) (L (u3 g))
      = L (u3 fun x y z => if j < y then f x y z else g x y z) := by
  refine mask_u3 hm _ (fun _ y z => j < y) (fun x y z => ?_) _ _
  pointwise [colIx]
  exact gt_word y j
theorem mask_colLt (hm : (T3 1 16 1).Broadcasts (T3 16 16 1)) (j : Fin 16) (f g : Fin 16 → Fin 16 → Fin 1 → ℝ) :
    mask (F := Ideal) hm (cmpi .slt colIx (broadcast _ (BitVec.ofNat 32 j.val))) (L (u3 f)) (L (u3 g))
      = L (u3 fun x y z => if y < j then f x y z else g x y z) := by
  refine mask_u3 hm _ (fun _ y z => y < j) (fun x y z => ?_) _ _
  pointwise [colIx]
  exact lt_word y j
theorem mask_rowGt (hm : (T3 1 1 16).Broadcasts (T3 16 1 16)) (j : Fin 16) (f g : Fin 16 → Fin 1 → Fin 16 → ℝ) :
    mask (F := Ideal) hm (cmpi .sgt rowIx (broadcast _ (BitVec.ofNat 32 j.val))) (L (u3 f)) (L (u3 g))
      = L (u3 fun x y z => if j < z then f x y z else g x y z) := by
  refine mask_u3 hm _ (fun _ y z => j < z) (fun x y z => ?_) _ _
  pointwise [rowIx]
  exact gt_word z j
theorem mask_rowEq (hm : (T3 1 1 16).Broadcasts (T3 16 1 16)) (j : Fin 16) (f g : Fin 16 → Fin 1 → Fin 16 → ℝ) :
    mask (F := Ideal) hm (cmpi .eq rowIx (broadcast _ (BitVec.ofNat 32 j.val))) (L (u3 f)) (L (u3 g))
      = L (u3 fun x y z => if z = j then f x y z else g x y z) := by
  refine mask_u3 hm _ (fun _ y z => z = j) (fun x y z => ?_) _ _
  pointwise [rowIx]
  exact eq_word z j
theorem mask_noEq (hm : (T3 1 16 16).Broadcasts (T3 16 16 16)) (j : Fin 16) (f g : Fin 16 → Fin 16 → Fin 16 → ℝ) :
    mask (F := Ideal) hm (cmpi .eq rowNo (broadcast _ (BitVec.ofNat 32 j.val))) (L (u3 f)) (L (u3 g))
      = L (u3 fun x y z => if y = j then f x y z else g x y z) := by
  refine mask_u3 hm _ (fun _ y z => y = j) (fun x y z => ?_) _ _
  pointwise [rowNo]
  exact eq_word y j
theorem mask_eye (hm : (T3 1 16 16).Broadcasts (T3 16 16 16)) (f g : Fin 16 → Fin 16 → Fin 16 → ℝ) :
    mask (F := Ideal) hm (cmpi .eq rowNo (iota .tc (T3 1 16 16) 32 [2])) (L (u3 f)) (L (u3 g))
      = L (u3 fun x y z => if y = z then f x y z else g x y z) := by
  refine mask_u3 hm _ (fun _ y z => y = z) (fun x y z => ?_) _ _
  pointwise [rowNo]
  exact eq_word y z

theorem bcs_zero {s t : Shape} (h : s.Broadcasts t) : bcs (F := Ideal) h (cst _ 0#32) = L fun _ => 0 := by
  funext i; exact w0
theorem bcs_row (h : (T3 16 1 16).Broadcasts (T3 16 16 16)) (f : Fin 16 → Fin 1 → Fin 16 → ℝ) :
    bcs h (L (u3 f)) = L (u3 fun x (_ : Fin 16) z => f x 0 z) := by
  funext i; unfold bcs; idx_vars i; pointwise [L, u3]
theorem bcs_111 (h : (T3 16 1 1).Broadcasts (T3 16 1 16)) (f : Fin 16 → Fin 1 → Fin 1 → ℝ) :
    bcs h (L (u3 f)) = L (u3 fun x (_ : Fin 1) (_ : Fin 16) => f x 0 0) := by
  funext i; unfold bcs; idx_vars i; pointwise [L, u3]
theorem L_zero3 {a b c : ℕ} : (L fun _ => 0 : FVec Ideal (T3 a b c) .f32) = L (u3 fun _ _ _ => 0) := rfl
theorem L_zero2 {a b : ℕ} : (L fun _ => 0 : FVec Ideal (T2 a b) .f32) = L (u2 fun _ _ => 0) := rfl

/-! ### The step's own changes of layout -/

theorem inCol_L (f : Fin 16 → Fin 16 → ℝ) : inCol (L (u2 f)) = L (u3 fun x y (_ : Fin 16) => f x y) := by
  funext i; unfold inCol eCol Emb.app; idx_vars i; pointwise [L, u3, u2]
theorem inRow_L (f : Fin 16 → Fin 16 → ℝ) : inRow (L (u2 f)) = L (u3 fun x (_ : Fin 16) z => f x z) := by
  funext i; unfold inRow eRow Emb.app; idx_vars i; pointwise [L, u3, u2]
theorem in3_L (f : Fin 16 → Fin 1 → Fin 1 → ℝ) : in3 (L (u3 f)) = L (u3 fun x (_ : Fin 16) (_ : Fin 16) => f x 0 0) := by
  funext i; unfold in3; idx_vars i; pointwise [L, u3]
theorem in2_L (f : Fin 16 → Fin 1 → Fin 1 → ℝ) : in2 (L (u3 f)) = L (u2 fun x (_ : Fin 16) => f x 0 0) := by
  funext i; unfold in2; idx_vars i; pointwise [L, u3, u2]
theorem bc3_L (h : (T3 16 1 1).Broadcasts (T3 16 16 16)) (f : Fin 16 → Fin 1 → Fin 1 → ℝ) :
    broadcastTo (T3 16 16 16) (L (u3 f)) h = L (u3 fun x (_ : Fin 16) (_ : Fin 16) => f x 0 0) := by
  funext i; idx_vars i; pointwise [L, u3]
theorem asCol_L (f : Fin 16 → Fin 16 → ℝ) : shapeCast (T3 16 16 1) (L (u2 f)) = L (u3 fun x y (_ : Fin 1) => f x y) := by
  funext i; idx_vars i; pointwise [L, u3, u2]
theorem asRow_L (f : Fin 16 → Fin 16 → ℝ) : shapeCast (T3 16 1 16) (L (u2 f)) = L (u3 fun x (_ : Fin 1) z => f x z) := by
  funext i; idx_vars i; pointwise [L, u3, u2]

/-- A sum of reals as floats. -/
theorem coe_sum {ι : Type} (s : Finset ι) (f : ι → ℝ) : ∑ i ∈ s, ((f i : ℝ) : EReal) = ((∑ i ∈ s, f i : ℝ) : EReal) :=
  (map_sum (⟨⟨Real.toEReal, rfl⟩, EReal.coe_add⟩ : ℝ →+ EReal) f s).symm

theorem sum12_L (f : Fin 16 → Fin 16 → Fin 16 → ℝ) : sum12 (L (u3 f)) = L (u3 fun x (_ : Fin 1) (_ : Fin 1) => ∑ y, ∑ z, f x y z) := by
  funext i; unfold sum12; idx_vars i; pointwise [L, u3]; simp only [coe_sum]
theorem sum1_L (f : Fin 16 → Fin 16 → ℝ) : sum1 (L (u2 f)) = L (u3 fun x (_ : Fin 1) (_ : Fin 1) => ∑ y, f x y) := by
  funext i; unfold sum1; idx_vars i; pointwise [L, u3, u2]; simp only [coe_sum]
theorem sumR_L (f : Fin 16 → Fin 16 → Fin 16 → ℝ) : sumR (L (u3 f)) = L (u2 fun x y => ∑ z, f x y z) := by
  funext i; unfold sumR; idx_vars i; pointwise [L, u3, u2]; simp only [coe_sum]
theorem sumC_L (f : Fin 16 → Fin 16 → Fin 16 → ℝ) : sumC (L (u3 f)) = L (u2 fun x z => ∑ y, f x y z) := by
  funext i; unfold sumC; idx_vars i; pointwise [L, u3, u2]; simp only [coe_sum]

end Emd
-- ==== Proof.Chol.lean ====
module

public import Mathlib.Analysis.SpecialFunctions.Pow.Real
public import Mathlib.Algebra.BigOperators.Fin
public import Mathlib.Algebra.BigOperators.Field
public import Mathlib.Tactic.Ring
public import Mathlib.Tactic.FieldSimp
public import Mathlib.Tactic.Linarith
public import Mathlib.Tactic.Positivity
public import Mathlib.Tactic.LinearCombination

/-!
# Column-by-column factorization with forward and back substitution solves the system

Stated for a family of remaining matrices that follows the elimination on the trailing block only, so
that it serves a loop that masks and a loop that does not.
-/

public section
noncomputable section

namespace Emd
open Finset

variable {n : ℕ}

/-- The quadratic form of a matrix. -/
@[expose] def quad (A : Fin n → Fin n → ℝ) (x : Fin n → ℝ) : ℝ := ∑ i, ∑ k, x i * A i k * x k

/-- The remaining matrices of an elimination: each step takes the scaled column's outer product off the trailing block. -/
@[expose] def Elim (A : ℕ → Fin n → Fin n → ℝ) : Prop :=
  ∀ j i k : Fin n, j < i → j < k →
    A (j + 1) i k = A j i k - (A j i j / √(A j j j)) * (A j j k / √(A j j j))

/-- Symmetry of the trailing block is kept. -/
theorem Elim.symm {A : ℕ → Fin n → Fin n → ℝ} (hA : Elim A) (hs : ∀ i k, A 0 i k = A 0 k i) :
    ∀ j : ℕ, ∀ i k : Fin n, j ≤ i.val → j ≤ k.val → A j i k = A j k i := by
  intro j
  induction j with
  | zero => intro i k _ _; exact hs i k
  | succ j ih =>
    intro i k hi hk
    have hj : j < n := by omega
    have e1 := hA ⟨j, hj⟩ i k (Fin.lt_def.2 hi) (Fin.lt_def.2 hk)
    have e2 := hA ⟨j, hj⟩ k i (Fin.lt_def.2 hk) (Fin.lt_def.2 hi)
    simp only at e1 e2
    rw [e1, e2, ih i k (by omega) (by omega), ih i ⟨j, hj⟩ (by omega) le_rfl, ih ⟨j, hj⟩ k le_rfl (by omega)]
    ring

/-- A sum over the rows from `j` on splits off row `j`. -/
theorem sum_from {j : ℕ} (hj : j < n) (f : Fin n → ℝ) (hf : ∀ i : Fin n, i.val < j → f i = 0) :
    ∑ i, f i = f ⟨j, hj⟩ + ∑ i, if j < i.val then f i else 0 := by
  rw [← Finset.add_sum_erase _ _ (mem_univ (⟨j, hj⟩ : Fin n))]
  congr 1
  rw [← Finset.add_sum_erase univ (fun i : Fin n => if j < i.val then f i else 0) (mem_univ (⟨j, hj⟩ : Fin n))]
  simp only [lt_irrefl, if_false, zero_add]
  refine sum_congr rfl fun i hi => ?_
  have hne : i.val ≠ j := fun h => (mem_erase.1 hi).1 (Fin.ext h)
  rcases lt_or_gt_of_ne hne with h | h
  · rw [hf i h, if_neg (by omega)]
  · rw [if_pos h]

/-- Positivity of the trailing block is kept. -/
theorem Elim.pos {A : ℕ → Fin n → Fin n → ℝ} (hA : Elim A) (hs : ∀ i k, A 0 i k = A 0 k i)
    (hp : ∀ x : Fin n → ℝ, x ≠ 0 → 0 < quad (A 0) x) :
    ∀ j : ℕ, ∀ x : Fin n → ℝ, (∀ i : Fin n, i.val < j → x i = 0) → x ≠ 0 → 0 < quad (A j) x := by
  intro j
  induction j with
  | zero => intro x _ hx; exact hp x hx
  | succ j ih =>
    intro x hx0 hx
    by_cases hj : j < n
    swap
    · exact absurd (funext fun i => hx0 i (by omega)) hx
    set J : Fin n := ⟨j, hj⟩ with hJ
    have hpiv : 0 < A j J J := by
      have := ih (fun i => if i = J then 1 else 0) (fun i hi => by
        rw [if_neg]; rintro rfl; simp [hJ] at hi) (fun h => by simpa using congrFun h J)
      simpa [quad] using this
    have hsy := hA.symm hs j
    set a : Fin n → ℝ := fun k => A j J k with ha
    set q : ℝ := ∑ k, if j < k.val then a k * x k else 0 with hq
    set y : Fin n → ℝ := fun i => if i = J then -q / A j J J else x i with hy
    have hxJ : x J = 0 := hx0 J (by simp [hJ])
    have hyne : y ≠ 0 := by
      intro h
      apply hx
      funext i
      by_cases hi : i = J
      · rw [hi, hxJ]; rfl
      · have := congrFun h i
        simpa [hy, hi] using this
    have hy0 : ∀ i : Fin n, i.val < j → y i = 0 := by
      intro i hi
      have : i ≠ J := by rintro rfl; simp [hJ] at hi
      simp only [hy, this, if_false]
      exact hx0 i (by omega)
    have hpos := ih y hy0 hyne
    have key : quad (A j) y = quad (A (j + 1)) x := by
      have hyJ : y J = -q / A j J J := by simp [hy]
      have hyi : ∀ i : Fin n, j < i.val → y i = x i := by
        intro i hi
        have : i ≠ J := by rintro rfl; simp [hJ] at hi
        simp [hy, this]
      have inner : ∀ i : Fin n, (∑ k, y i * A j i k * y k)
          = y i * A j i J * y J + ∑ k, if j < k.val then y i * A j i k * y k else 0 := by
        intro i
        exact sum_from hj _ (fun k hk => by rw [hy0 k hk, mul_zero])
      unfold quad
      simp only [inner]
      rw [sum_from hj _ (fun i hi => by simp [hy0 i hi])]
      have hR : ∀ i : Fin n, (∑ k, x i * A (j + 1) i k * x k)
          = if j < i.val then (∑ k, if j < k.val then x i * A (j + 1) i k * x k else 0) else 0 := by
        intro i
        split_ifs with h
        · refine sum_congr rfl fun k _ => ?_
          split_ifs with h'
          · rfl
          · rw [hx0 k (by omega), mul_zero]
        · rw [hx0 i (by omega)]; simp
      simp only [hR]
      have e1 : (∑ k, if j < k.val then y J * A j J k * y k else 0) = y J * q := by
        rw [hq, mul_sum]
        refine sum_congr rfl fun k _ => ?_
        split_ifs with h
        · rw [hyi k h, ha]; ring
        · simp
      have e2 : ∀ i : Fin n, (if j < i.val then (y i * A j i J * y J + ∑ k, if j < k.val then y i * A j i k * y k else 0) else 0)
          = (if j < i.val then a i * x i else 0) * y J
            + ((if j < i.val then (∑ k, if j < k.val then x i * A (j + 1) i k * x k else 0) else 0)
              + (if j < i.val then a i * x i else 0) * q / A j J J) := by
        intro i
        split_ifs with h
        · have hij : A j i J = a i := hsy i J (by omega) le_rfl
          rw [hyi i h, hij]
          have : (∑ k, if j < k.val then x i * A j i k * y k else 0)
              = (∑ k, if j < k.val then x i * A (j + 1) i k * x k else 0) + a i * x i * q / A j J J := by
            rw [hq, mul_sum, sum_div, ← sum_add_distrib]
            refine sum_congr rfl fun k _ => ?_
            split_ifs with h'
            · have hs2 : √(A j J J) * √(A j J J) = A j J J := Real.mul_self_sqrt hpiv.le
              have hs0 : √(A j J J) ≠ 0 := (Real.sqrt_pos.2 hpiv).ne'
              have := hA J i k (Fin.lt_def.2 h) (Fin.lt_def.2 h')
              simp only [hJ] at this
              rw [hyi k h', this]
              have hij' : A j i ⟨j, hj⟩ = a i := hij
              rw [hij']
              have hak : A j ⟨j, hj⟩ k = a k := rfl
              rw [hak, div_mul_div_comm, hs2]
              field_simp
              ring
            · simp
          rw [this]; ring
        · simp
      simp only [e2]
      rw [e1, sum_add_distrib, sum_add_distrib, ← sum_mul, ← sum_div, ← sum_mul, ← hq, hyJ]
      field_simp
      ring
    rw [← key]; exact hpos

/-- Every pivot is positive. -/
theorem Elim.pivot {A : ℕ → Fin n → Fin n → ℝ} (hA : Elim A) (hs : ∀ i k, A 0 i k = A 0 k i)
    (hp : ∀ x : Fin n → ℝ, x ≠ 0 → 0 < quad (A 0) x) (j : Fin n) : 0 < A j j j := by
  have := hA.pos hs hp j (fun i => if i = j then 1 else 0) (fun i hi => by
    rw [if_neg]; rintro rfl; exact lt_irrefl _ hi) (fun h => by simpa using congrFun h j)
  simpa [quad] using this

/-- The factor's column `j`, zero above the diagonal. -/
@[expose] def fac (A : ℕ → Fin n → Fin n → ℝ) (j i : Fin n) : ℝ :=
  if i < j then 0 else A j i j / √(A j j j)

/-- The matrix is the factor times its transpose. -/
theorem Elim.factor {A : ℕ → Fin n → Fin n → ℝ} (hA : Elim A) (hs : ∀ i k, A 0 i k = A 0 k i)
    (hp : ∀ x : Fin n → ℝ, x ≠ 0 → 0 < quad (A 0) x) (i k : Fin n) :
    A 0 i k = ∑ j, fac A j i * fac A j k := by
  have main : ∀ m : ℕ, ∀ i k : Fin n, m ≤ i.val → m ≤ k.val →
      A 0 i k = (∑ j, if j.val < m then fac A j i * fac A j k else 0) + A m i k := by
    intro m
    induction m with
    | zero => intro i k _ _; simp
    | succ m ih =>
      intro i k hi hk
      have hm : m < n := by omega
      rw [ih i k (by omega) (by omega)]
      have e := hA ⟨m, hm⟩ i k (Fin.lt_def.2 hi) (Fin.lt_def.2 hk)
      simp only at e
      have hsum : (∑ j : Fin n, if j.val < m + 1 then fac A j i * fac A j k else 0)
          = (∑ j : Fin n, if j.val < m then fac A j i * fac A j k else 0) + fac A ⟨m, hm⟩ i * fac A ⟨m, hm⟩ k := by
        have : ∀ j : Fin n, (if j.val < m + 1 then fac A j i * fac A j k else 0)
            = (if j.val < m then fac A j i * fac A j k else 0)
              + (if j = ⟨m, hm⟩ then fac A j i * fac A j k else 0) := by
          intro j
          by_cases h1 : j.val < m
          · have h2 : j ≠ ⟨m, hm⟩ := by rintro rfl; simp at h1
            rw [if_pos (by omega), if_pos h1, if_neg h2, add_zero]
          · by_cases h2 : j = ⟨m, hm⟩
            · rw [if_pos (by rw [h2]; simp), if_neg h1, if_pos h2, zero_add]
            · have : ¬ j.val < m + 1 := by
                intro h3; apply h2; apply Fin.ext; simp; omega
              rw [if_neg this, if_neg h1, if_neg h2, add_zero]
        rw [sum_congr rfl fun j _ => this j, sum_add_distrib]
        simp
      rw [hsum, e]
      have f1 : fac A ⟨m, hm⟩ i = A m i ⟨m, hm⟩ / √(A m ⟨m, hm⟩ ⟨m, hm⟩) := by
        rw [fac, if_neg (by rw [Fin.lt_def]; simp; omega)]
      have f2 : fac A ⟨m, hm⟩ k = A m ⟨m, hm⟩ k / √(A m ⟨m, hm⟩ ⟨m, hm⟩) := by
        rw [fac, if_neg (by rw [Fin.lt_def]; simp; omega)]
        rw [hA.symm hs m k ⟨m, hm⟩ (by omega) le_rfl]
      rw [f1, f2]; ring
  wlog hik : i ≤ k with W
  · rw [hs i k, W hA hs hp k i main (le_of_not_ge hik)]
    exact sum_congr rfl fun j _ => mul_comm _ _
  rw [main i.val i k le_rfl hik]
  have hpv := hA.pivot hs hp i
  have : ∀ j : Fin n, fac A j i * fac A j k
      = (if j.val < i.val then fac A j i * fac A j k else 0) + (if j = i then fac A j i * fac A j k else 0) := by
    intro j
    rcases lt_trichotomy j i with h | h | h
    · rw [if_pos (Fin.lt_def.1 h), if_neg h.ne, add_zero]
    · rw [if_neg (by rw [h]; omega), if_pos h, zero_add]
    · rw [if_neg (by have := Fin.lt_def.1 h; omega), if_neg h.ne', add_zero, fac, if_pos h, zero_mul]
  rw [sum_congr rfl fun j _ => this j, sum_add_distrib]
  simp only [sum_ite_eq', mem_univ, if_true]
  congr 1
  rw [fac, if_neg (lt_irrefl _), fac, if_neg (not_lt.2 hik)]
  rw [hA.symm hs i k i (Fin.le_def.1 hik) le_rfl, div_mul_div_comm, Real.mul_self_sqrt hpv.le]
  field_simp

/-- Forward and back substitution along the elimination solve the system. -/
theorem Elim.solve {A : ℕ → Fin n → Fin n → ℝ} (hA : Elim A) (hs : ∀ i k, A 0 i k = A 0 k i)
    (hp : ∀ x : Fin n → ℝ, x ≠ 0 → 0 < quad (A 0) x)
    (t : ℕ → Fin n → ℝ)
    (ht : ∀ j i : Fin n, t (j + 1) i = if i < j then t j i else if i = j then t j j / √(A j j j)
      else t j i - (A j i j / √(A j j j)) * (t j j / √(A j j j)))
    (x : ℕ → Fin n → ℝ) (hx0 : x 0 = t n)
    (hx : ∀ k : ℕ, ∀ j i : Fin n, j.val = n - 1 - k → k < n → x (k + 1) i = if j < i then x k i
      else if i = j then x k j / √(A j j j)
      else x k i - (A i j i / √(A i i i)) * (x k j / √(A j j j))) (i : Fin n) :
    ∑ k, A 0 i k * x n k = t 0 i := by
  have hpv := hA.pivot hs hp
  have hfd : ∀ j, fac A j j = √(A j j j) := by
    intro j
    rw [fac, if_neg (lt_irrefl _), Real.div_sqrt]
  have hs0 : ∀ j : Fin n, √(A j j j) ≠ 0 := fun j => (Real.sqrt_pos.2 (hpv j)).ne'
  -- the sum over the indices below `m + 1`
  have hsum : ∀ (m : ℕ) (hm : m < n) (f : Fin n → ℝ), (∑ j : Fin n, if j.val < m + 1 then f j else 0)
      = (∑ j : Fin n, if j.val < m then f j else 0) + f ⟨m, hm⟩ := by
    intro m hm f
    have : ∀ j : Fin n, (if j.val < m + 1 then f j else 0)
        = (if j.val < m then f j else 0) + (if j = ⟨m, hm⟩ then f j else 0) := by
      intro j
      by_cases h1 : j.val < m
      · have h2 : j ≠ ⟨m, hm⟩ := by rintro rfl; simp at h1
        rw [if_pos (by omega), if_pos h1, if_neg h2, add_zero]
      · by_cases h2 : j = ⟨m, hm⟩
        · rw [if_pos (by rw [h2]; simp), if_neg h1, if_pos h2, zero_add]
        · have : ¬ j.val < m + 1 := by
            intro h3; apply h2; apply Fin.ext; simp; omega
          rw [if_neg this, if_neg h1, if_neg h2, add_zero]
    rw [sum_congr rfl fun j _ => this j, sum_add_distrib]
    simp
  -- forward: entries below the step are final
  have hfin : ∀ m : ℕ, m ≤ n → ∀ i : Fin n, i.val < m → t m i = t n i := by
    intro m hm
    induction hm using Nat.decreasingInduction with
    | self => intro i _; rfl
    | of_succ m hm ih =>
      intro i hi
      rw [← ih i (by omega), ht ⟨m, hm⟩ i, if_pos (Fin.lt_def.2 hi)]
  have fwd : ∀ m : ℕ, m ≤ n → ∀ i : Fin n, t 0 i
      = (∑ j : Fin n, if j.val < m then fac A j i * t n j else 0) + (if i.val < m then 0 else t m i) := by
    intro m
    induction m with
    | zero => intro _ i; simp
    | succ m ih =>
      intro hm i
      have hm' : m < n := hm
      rw [ih hm'.le i, hsum m hm']
      have htj : t n ⟨m, hm'⟩ = t m ⟨m, hm'⟩ / √(A m ⟨m, hm'⟩ ⟨m, hm'⟩) := by
        rw [← hfin (m + 1) hm ⟨m, hm'⟩ (by simp), ht ⟨m, hm'⟩, if_neg (lt_irrefl _), if_pos rfl]
      rcases lt_trichotomy i.val m with h | h | h
      · rw [if_pos h, if_pos (by omega), fac, if_pos (by rw [Fin.lt_def]; exact h)]; ring
      · have hi : i = ⟨m, hm'⟩ := Fin.ext h
        rw [if_neg (by omega), if_pos (by omega), hi, hfd, htj]
        have h0 := hs0 ⟨m, hm'⟩
        simp only at h0 ⊢
        field_simp
        ring
      · rw [if_neg (by omega), if_neg (by omega), fac, if_neg (by rw [Fin.lt_def]; simp; omega),
          ht ⟨m, hm'⟩ i, if_neg (by rw [Fin.lt_def]; simp; omega),
          if_neg (by intro h'; rw [h'] at h; simp at h), htj]
        ring
  have fwd' : ∀ i : Fin n, t 0 i = ∑ j, fac A j i * t n j := by
    intro i
    rw [fwd n le_rfl i, if_pos i.isLt, add_zero]
    exact sum_congr rfl fun j _ => if_pos j.isLt
  -- backward
  have bfin : ∀ m : ℕ, m ≤ n → ∀ i : Fin n, n - m ≤ i.val → x m i = x n i := by
    intro m hm
    induction hm using Nat.decreasingInduction with
    | self => intro i _; rfl
    | of_succ m hm ih =>
      intro i hi
      rw [← ih i (by omega), hx m ⟨n - 1 - m, by omega⟩ i rfl hm, if_pos (by rw [Fin.lt_def]; simp; omega)]
  have bwd : ∀ m : ℕ, m ≤ n → ∀ i : Fin n, t n i
      = (∑ j : Fin n, if n - m ≤ j.val then fac A i j * x n j else 0) + (if i.val < n - m then x m i else 0) := by
    intro m
    induction m with
    | zero =>
      intro _ i
      rw [if_pos (by omega), hx0, sum_eq_zero fun j _ => if_neg (by omega), zero_add]
    | succ m ih =>
      intro hm i
      have hm' : m < n := hm
      rw [ih hm'.le i]
      set J : Fin n := ⟨n - 1 - m, by omega⟩ with hJ
      have hsb : (∑ j : Fin n, if n - (m + 1) ≤ j.val then fac A i j * x n j else 0)
          = (∑ j : Fin n, if n - m ≤ j.val then fac A i j * x n j else 0) + fac A i J * x n J := by
        have : ∀ j : Fin n, (if n - (m + 1) ≤ j.val then fac A i j * x n j else 0)
            = (if n - m ≤ j.val then fac A i j * x n j else 0) + (if j = J then fac A i j * x n j else 0) := by
          intro j
          by_cases h1 : n - m ≤ j.val
          · have h2 : j ≠ J := by rintro rfl; simp [hJ] at h1; omega
            rw [if_pos (by omega), if_pos h1, if_neg h2, add_zero]
          · by_cases h2 : j = J
            · rw [if_pos (by rw [h2]; simp [hJ]; omega), if_neg h1, if_pos h2, zero_add]
            · have : ¬ n - (m + 1) ≤ j.val := by
                intro h3; apply h2; apply Fin.ext; simp [hJ]; omega
              rw [if_neg this, if_neg h1, if_neg h2, add_zero]
        rw [sum_congr rfl fun j _ => this j, sum_add_distrib]
        simp
      rw [hsb]
      have hxJ : x n J = x m J / √(A J J J) := by
        rw [← bfin (m + 1) hm J (by simp [hJ]; omega), hx m J J rfl hm', if_neg (lt_irrefl _), if_pos rfl]
      rcases lt_trichotomy i.val (n - 1 - m) with h | h | h
      · have h1 : i.val < n - m := by omega
        have h2 : i.val < n - (m + 1) := by omega
        have hiJ : i < J := by rw [Fin.lt_def]; simpa [hJ] using h
        rw [if_pos h1, if_pos h2, hx m J i rfl hm', if_neg (not_lt.2 hiJ.le), if_neg hiJ.ne, fac,
          if_neg (not_lt.2 hiJ.le), hxJ]
        ring
      · have hi : i = J := Fin.ext (by simpa [hJ] using h)
        rw [if_pos (by omega), if_neg (by omega), hi, hfd, hxJ]
        have h0 := hs0 J
        field_simp
        ring
      · have hiJ : J < i := by rw [Fin.lt_def]; simpa [hJ] using h
        rw [if_neg (by omega), if_neg (by omega), fac, if_pos hiJ]
        ring
  have bwd' : ∀ i : Fin n, t n i = ∑ j, fac A i j * x n j := by
    intro i
    rw [bwd n le_rfl i, if_neg (by omega), add_zero]
    exact sum_congr rfl fun j _ => if_pos (by omega)
  rw [fwd' i]
  simp only [bwd', mul_sum, hA.factor hs hp i, sum_mul]
  rw [sum_comm]
  refine sum_congr rfl fun j _ => sum_congr rfl fun k _ => ?_
  ring

end Emd
-- ==== Proof.Newton.lean ====
module

public import proofs.«01_k».proof.Proof.Chol
public import Mathlib.Algebra.Order.BigOperators.Ring.Finset

/-!
# The Newton system of one jet pair and its elimination

The system has one unknown per pair of particles; its matrix is a diagonal plus one rank-one term per
row and per column.  Eliminating the rows leaves a small positive matrix on the columns.
-/

public section
noncomputable section

namespace Emd
open Finset

variable {n : ℕ}

/-- `u` solves the Newton system with diagonal `e`, row weights `dr`, column weights `dc` and right-hand side `r`. -/
@[expose] def IsSol (e : Fin n → Fin n → ℝ) (dr dc : Fin n → ℝ) (r u : Fin n → Fin n → ℝ) : Prop :=
  ∀ i j, e i j * u i j + dr i * (∑ k, u i k) + dc j * (∑ k, u k j) = r i j

/-- The weighted square of a vector is what the matrix pairs it with itself to. -/
theorem pair_self (e : Fin n → Fin n → ℝ) (dr dc : Fin n → ℝ) (u : Fin n → Fin n → ℝ) :
    ∑ i, ∑ j, u i j * (e i j * u i j + dr i * (∑ k, u i k) + dc j * (∑ k, u k j))
      = (∑ i, ∑ j, e i j * u i j ^ 2) + (∑ i, dr i * (∑ k, u i k) ^ 2) + ∑ j, dc j * (∑ k, u k j) ^ 2 := by
  have h1 : ∀ i j, u i j * (e i j * u i j + dr i * (∑ k, u i k) + dc j * (∑ k, u k j))
      = e i j * u i j ^ 2 + u i j * (dr i * (∑ k, u i k)) + u i j * (dc j * (∑ k, u k j)) := by
    intro i j; ring
  simp only [h1, sum_add_distrib]
  congr 1
  · congr 1
    refine sum_congr rfl fun i _ => ?_
    rw [← sum_mul]; ring
  · rw [sum_comm]
    refine sum_congr rfl fun j _ => ?_
    rw [← sum_mul]; ring

/-- The system has at most one solution. -/
theorem IsSol.unique {e : Fin n → Fin n → ℝ} {dr dc : Fin n → ℝ} (he : ∀ i j, 0 < e i j) (hr : ∀ i, 0 < dr i)
    (hc : ∀ j, 0 < dc j) {r u v : Fin n → Fin n → ℝ} (hu : IsSol e dr dc r u) (hv : IsSol e dr dc r v) : u = v := by
  have hw : ∀ i j, e i j * (u i j - v i j) + dr i * (∑ k, (u i k - v i k)) + dc j * (∑ k, (u k j - v k j)) = 0 := by
    intro i j
    have := hu i j; have := hv i j
    simp only [sum_sub_distrib]
    linarith
  have hz := pair_self e dr dc (fun i j => u i j - v i j)
  simp only [hw, mul_zero, sum_const_zero] at hz
  have n1 : 0 ≤ ∑ i, ∑ j, e i j * (u i j - v i j) ^ 2 :=
    sum_nonneg fun i _ => sum_nonneg fun j _ => mul_nonneg (he i j).le (sq_nonneg _)
  have n2 : 0 ≤ ∑ i, dr i * (∑ k, (u i k - v i k)) ^ 2 := sum_nonneg fun i _ => mul_nonneg (hr i).le (sq_nonneg _)
  have n3 : 0 ≤ ∑ j, dc j * (∑ k, (u k j - v k j)) ^ 2 := sum_nonneg fun j _ => mul_nonneg (hc j).le (sq_nonneg _)
  have z1 : ∑ i, ∑ j, e i j * (u i j - v i j) ^ 2 = 0 := by linarith
  funext i j
  have a1 := (sum_eq_zero_iff_of_nonneg (fun i _ => sum_nonneg fun j _ => mul_nonneg (he i j).le (sq_nonneg _))).1 z1 i
    (mem_univ i)
  have a2 := (sum_eq_zero_iff_of_nonneg (fun j _ => mul_nonneg (he i j).le (sq_nonneg _))).1 a1 j (mem_univ j)
  have a3 : (u i j - v i j) ^ 2 = 0 := by
    rcases mul_eq_zero.1 a2 with h | h
    · exact absurd h (he i j).ne'
    · exact h
  exact sub_eq_zero.1 (pow_eq_zero_iff (two_ne_zero) |>.1 a3)

/-- The solution for the all-ones right-hand side has a positive sum. -/
theorem IsSol.sum_pos [NeZero n] {e : Fin n → Fin n → ℝ} {dr dc : Fin n → ℝ} (he : ∀ i j, 0 < e i j) (hr : ∀ i, 0 < dr i)
    (hc : ∀ j, 0 < dc j) {v : Fin n → Fin n → ℝ} (hv : IsSol e dr dc (fun _ _ => 1) v) : 0 < ∑ i, ∑ j, v i j := by
  have hz := pair_self e dr dc v
  have : ∀ i j, v i j * (e i j * v i j + dr i * (∑ k, v i k) + dc j * (∑ k, v k j)) = v i j := by
    intro i j; rw [hv i j, mul_one]
  simp only [this] at hz
  rw [hz]
  have n1 : 0 ≤ ∑ i, ∑ j, e i j * v i j ^ 2 :=
    sum_nonneg fun i _ => sum_nonneg fun j _ => mul_nonneg (he i j).le (sq_nonneg _)
  have n2 : 0 ≤ ∑ i, dr i * (∑ k, v i k) ^ 2 := sum_nonneg fun i _ => mul_nonneg (hr i).le (sq_nonneg _)
  have n3 : 0 ≤ ∑ j, dc j * (∑ k, v k j) ^ 2 := sum_nonneg fun j _ => mul_nonneg (hc j).le (sq_nonneg _)
  rcases n1.lt_or_eq with h | h
  · linarith
  · exfalso
    have hall : ∀ i j, v i j = 0 := by
      intro i j
      have a1 := (sum_eq_zero_iff_of_nonneg (fun i _ => sum_nonneg fun j _ => mul_nonneg (he i j).le (sq_nonneg _))).1
        h.symm i (mem_univ i)
      have a2 := (sum_eq_zero_iff_of_nonneg (fun j _ => mul_nonneg (he i j).le (sq_nonneg _))).1 a1 j (mem_univ j)
      rcases mul_eq_zero.1 a2 with h | h
      · exact absurd h (he i j).ne'
      · exact pow_eq_zero_iff (two_ne_zero) |>.1 h
    have := hv 0 0
    simp [hall] at this

/-! ### The elimination of the rows -/

/-- The reciprocal of the diagonal. -/
@[expose] def eE (e : Fin n → Fin n → ℝ) (i j : Fin n) : ℝ := 1 / e i j
/-- The reciprocal of the rows' diagonal block. -/
@[expose] def iK (e : Fin n → Fin n → ℝ) (dr : Fin n → ℝ) (i : Fin n) : ℝ := 1 / (1 / dr i + ∑ j, eE e i j)
/-- The small matrix on the columns. -/
@[expose] def schur (e : Fin n → Fin n → ℝ) (dr dc : Fin n → ℝ) (j k : Fin n) : ℝ :=
  (if j = k then 1 / dc k + ∑ i, eE e i k else 0) - ∑ i, eE e i j * iK e dr i * eE e i k
/-- Its right-hand side, from the scaled right-hand side `t` and its row sums `a`. -/
@[expose] def srhs (e : Fin n → Fin n → ℝ) (dr : Fin n → ℝ) (t : Fin n → Fin n → ℝ) (a : Fin n → ℝ) (j : Fin n) : ℝ :=
  (∑ i, t i j) - ∑ i, eE e i j * (a i * iK e dr i)
/-- The full solution from the small one. -/
@[expose] def full (e : Fin n → Fin n → ℝ) (dr : Fin n → ℝ) (t : Fin n → Fin n → ℝ) (a w : Fin n → ℝ) (i j : Fin n) : ℝ :=
  t i j - ((a i - ∑ k, eE e i k * w k) * iK e dr i + w j) * eE e i j

/-- The small matrix is symmetric. -/
theorem schur_symm (e : Fin n → Fin n → ℝ) (dr dc : Fin n → ℝ) (j k : Fin n) : schur e dr dc j k = schur e dr dc k j := by
  unfold schur
  congr 1
  · by_cases h : j = k
    · subst h; rfl
    · rw [if_neg h, if_neg (Ne.symm h)]
  · exact sum_congr rfl fun i _ => by ring

/-- The small matrix is positive. -/
theorem schur_pos {e : Fin n → Fin n → ℝ} {dr dc : Fin n → ℝ} (he : ∀ i j, 0 < e i j) (hr : ∀ i, 0 < dr i)
    (hc : ∀ j, 0 < dc j) (x : Fin n → ℝ) (hx : x ≠ 0) : 0 < quad (schur e dr dc) x := by
  have hE : ∀ i j, 0 < eE e i j := fun i j => one_div_pos.2 (he i j)
  have hq : quad (schur e dr dc) x = (∑ j, (1 / dc j) * x j ^ 2)
      + ∑ i, ((∑ j, eE e i j * x j ^ 2) - iK e dr i * (∑ j, eE e i j * x j) ^ 2) := by
    unfold quad schur
    have h1 : ∀ j k, x j * ((if j = k then 1 / dc k + ∑ i, eE e i k else 0) - ∑ i, eE e i j * iK e dr i * eE e i k) * x k
        = (if j = k then x j * (1 / dc k + ∑ i, eE e i k) * x k else 0)
          - ∑ i, iK e dr i * ((eE e i j * x j) * (eE e i k * x k)) := by
      intro j k
      rw [mul_sub, sub_mul, mul_sum, sum_mul]
      congr 1
      · split_ifs <;> ring
      · exact sum_congr rfl fun i _ => by ring
    simp only [h1, sum_sub_distrib, sum_ite_eq, mem_univ, if_true]
    have h2 : (∑ j, ∑ k, ∑ i, iK e dr i * ((eE e i j * x j) * (eE e i k * x k)))
        = ∑ i, iK e dr i * (∑ j, eE e i j * x j) ^ 2 := by
      have : ∀ j, (∑ k, ∑ i, iK e dr i * ((eE e i j * x j) * (eE e i k * x k)))
          = ∑ i, ∑ k, iK e dr i * ((eE e i j * x j) * (eE e i k * x k)) := fun j => sum_comm
      simp only [this]
      rw [sum_comm]
      refine sum_congr rfl fun i _ => ?_
      rw [sq, sum_mul_sum, mul_sum]
      exact sum_congr rfl fun j _ => by rw [mul_sum]
    have h3 : (∑ j, x j * (1 / dc j + ∑ i, eE e i j) * x j)
        = (∑ j, (1 / dc j) * x j ^ 2) + ∑ i, ∑ j, eE e i j * x j ^ 2 := by
      rw [sum_comm (f := fun i j => eE e i j * x j ^ 2), ← sum_add_distrib]
      refine sum_congr rfl fun j _ => ?_
      rw [← sum_mul]; ring
    rw [h2, h3]; ring
  rw [hq]
  have p1 : 0 < ∑ j, (1 / dc j) * x j ^ 2 := by
    obtain ⟨j, hj⟩ := Function.ne_iff.1 hx
    refine sum_pos' (fun j _ => mul_nonneg (one_div_pos.2 (hc j)).le (sq_nonneg _)) ⟨j, mem_univ j, ?_⟩
    exact mul_pos (one_div_pos.2 (hc j)) (by simpa using sq_pos_of_ne_zero hj)
  have p2 : ∀ i, 0 ≤ (∑ j, eE e i j * x j ^ 2) - iK e dr i * (∑ j, eE e i j * x j) ^ 2 := by
    intro i
    have cs : (∑ j, eE e i j * x j) ^ 2 ≤ (∑ j, eE e i j) * ∑ j, eE e i j * x j ^ 2 :=
      sum_sq_le_sum_mul_sum_of_sq_eq_mul _ (fun j _ => (hE i j).le)
        (fun j _ => mul_nonneg (hE i j).le (sq_nonneg _)) (fun j _ => by ring)
    have hs : 0 ≤ ∑ j, eE e i j := sum_nonneg fun j _ => (hE i j).le
    have hd : 0 < 1 / dr i := one_div_pos.2 (hr i)
    have hk : 0 < 1 / dr i + ∑ j, eE e i j := by linarith
    have hQ : 0 ≤ ∑ j, eE e i j * x j ^ 2 := sum_nonneg fun j _ => mul_nonneg (hE i j).le (sq_nonneg _)
    unfold iK
    rw [sub_nonneg, one_div, inv_mul_le_iff₀ hk]
    nlinarith
  have : 0 ≤ ∑ i, ((∑ j, eE e i j * x j ^ 2) - iK e dr i * (∑ j, eE e i j * x j) ^ 2) := sum_nonneg fun i _ => p2 i
  linarith

/-- The full solution solves the system. -/
theorem full_isSol {e : Fin n → Fin n → ℝ} {dr dc : Fin n → ℝ} (he : ∀ i j, 0 < e i j) (hr : ∀ i, 0 < dr i)
    (hc : ∀ j, 0 < dc j) (r t : Fin n → Fin n → ℝ) (a w : Fin n → ℝ) (ht : ∀ i j, t i j = eE e i j * r i j)
    (ha : ∀ i, a i = ∑ j, t i j) (hw : ∀ j, ∑ k, schur e dr dc j k * w k = srhs e dr t a j) :
    IsSol e dr dc r (full e dr t a w) := by
  have hE : ∀ i j, 0 < eE e i j := fun i j => one_div_pos.2 (he i j)
  set q : Fin n → ℝ := fun i => (a i - ∑ k, eE e i k * w k) * iK e dr i with hq
  have hk : ∀ i, 0 < 1 / dr i + ∑ j, eE e i j := fun i =>
    add_pos_of_pos_of_nonneg (one_div_pos.2 (hr i)) (sum_nonneg fun j _ => (hE i j).le)
  have rowsum : ∀ i, dr i * (∑ k, full e dr t a w i k) = q i := by
    intro i
    have h1 : ∑ k, full e dr t a w i k = a i - q i * (∑ k, eE e i k) - ∑ k, eE e i k * w k := by
      unfold full
      rw [sum_sub_distrib, ← ha i, mul_sum, sub_sub, ← sum_add_distrib]
      congr 1
      exact sum_congr rfl fun k _ => by simp only [hq]; ring
    have h2 : q i * (1 / dr i + ∑ k, eE e i k) = a i - ∑ k, eE e i k * w k := by
      simp only [hq, iK]
      have := (hk i).ne'
      rw [mul_assoc, one_div_mul_cancel this, mul_one]
    have h3 : ∑ k, full e dr t a w i k = q i * (1 / dr i) := by rw [h1]; linarith
    rw [h3]
    have := (hr i).ne'
    field_simp
  have colsum : ∀ j, dc j * (∑ k, full e dr t a w k j) = w j := by
    intro j
    have h1 : ∑ i, full e dr t a w i j = (∑ i, t i j) - (∑ i, eE e i j * q i) - w j * ∑ i, eE e i j := by
      unfold full
      rw [sum_sub_distrib, mul_sum, sub_sub, ← sum_add_distrib]
      congr 1
      exact sum_congr rfl fun i _ => by simp only [hq]; ring
    have h2 := hw j
    unfold schur srhs at h2
    have h3 : (∑ k, ((if j = k then 1 / dc k + ∑ i, eE e i k else 0) - ∑ i, eE e i j * iK e dr i * eE e i k) * w k)
        = (1 / dc j + ∑ i, eE e i j) * w j - ∑ i, eE e i j * iK e dr i * ∑ k, eE e i k * w k := by
      simp only [sub_mul, sum_sub_distrib, ite_mul, zero_mul, sum_ite_eq, mem_univ, if_true]
      congr 1
      simp only [sum_mul, mul_sum]
      rw [sum_comm]
      exact sum_congr rfl fun i _ => sum_congr rfl fun k _ => by ring
    rw [h3] at h2
    have h4 : (∑ i, eE e i j * q i)
        = (∑ i, eE e i j * (a i * iK e dr i)) - ∑ i, eE e i j * iK e dr i * ∑ k, eE e i k * w k := by
      rw [← sum_sub_distrib]
      exact sum_congr rfl fun i _ => by simp only [hq]; ring
    have h5 : ∑ i, full e dr t a w i j = w j * (1 / dc j) := by rw [h1, h4]; linarith
    rw [h5]
    have := (hc j).ne'
    field_simp
  intro i j
  rw [rowsum i, colsum j]
  unfold full
  rw [ht i j]
  have := (he i j).ne'
  simp only [hq, eE]
  field_simp
  ring

end Emd
-- ==== Proof.Factor.lean ====
module

public import proofs.«01_k».proof.Proof.Layer
public import proofs.«01_k».proof.Proof.Newton

/-!
# The kernel's factorization over the reals

The sixteen columns of the kernel's factorization, with its two substitutions, solve the small system.
-/

@[expose] public section
noncomputable section

namespace Emd
open Idealize.ShloMosaic Finset

/-- What the factorization of one jet carries. -/
structure CholR where
  /-- the remaining matrix -/
  S : Fin 16 → Fin 16 → ℝ
  /-- the transposed factor -/
  LT : Fin 16 → Fin 16 → ℝ
  /-- the diagonal's reciprocals -/
  invd : Fin 16 → ℝ
  /-- the right-hand sides -/
  th : Fin 16 → Fin 2 → ℝ

/-- The right-hand sides with row `j` scaled. -/
def scaleR (j : Fin 16) (inv : ℝ) (th : Fin 16 → Fin 2 → ℝ) (i : Fin 16) (q : Fin 2) : ℝ :=
  if i = j then th i q * inv else th i q
/-- The right-hand sides less a column times row `j`. -/
def elimR (j : Fin 16) (col : Fin 16 → ℝ) (th : Fin 16 → Fin 2 → ℝ) (i : Fin 16) (q : Fin 2) : ℝ :=
  th i q - col i * th j q

/-- One column of one jet's factorization. -/
def cholR (j : Fin 16) (c : CholR) : CholR :=
  let inv := 1 / √(c.S j j)
  { S := fun i k => if j.val + 1 < 16 then c.S i k - (if j < i then c.S i j * inv else 0) * (if j < k then c.S j k * inv else 0)
         else c.S i k
    LT := fun i k => if i = j then c.S j k * inv else c.LT i k
    invd := fun k => if k = j then inv else c.invd k
    th := elimR j (fun i => if j < i then c.S i j * inv else 0) (scaleR j inv c.th) }

/-- One column of one jet's back substitution. -/
def backR (LT : Fin 16 → Fin 16 → ℝ) (invd : Fin 16 → ℝ) (j : Fin 16) (th : Fin 16 → Fin 2 → ℝ) : Fin 16 → Fin 2 → ℝ :=
  if 0 < j.val then elimR j (fun i => if i < j then LT i j else 0) (scaleR j (invd j) th) else scaleR j (invd j) th

/-- Sixteen jets' factorizations as the kernel's values. -/
def liftC (c : Fin 16 → CholR) : Chol Ideal :=
  { S := D (u3 fun b i k => (c b).S i k), LT := D (u3 fun b i k => (c b).LT i k),
    invd := D (u3 fun b (_ : Fin 1) k => (c b).invd k), th := D (u3 fun b i q => (c b).th i q) }

theorem scaleRow_D (j : Fin 16) (inv : Fin 16 → Fin 1 → Fin 1 → ℝ) (th : Fin 16 → Fin 16 → Fin 2 → ℝ) :
    scaleRow j.val (D (u3 inv)) (D (u3 th)) = D (u3 fun b => scaleR j (inv b 0 0) (th b)) := by
  unfold scaleRow
  rw [dfMul_u3 .id _ th inv (app_id3 _) (app_b112 _ _)]
  refine Prod.ext ?_ ?_
  · exact mask_colEq _ _ _ _
  · simp only [D2, L_zero3]
    exact (mask_colEq _ _ _ _).trans (L_congr _ _ fun i => ite_self _)

theorem elimRow_D (j : Fin 16) (col : Fin 16 → Fin 16 → Fin 1 → ℝ) (th : Fin 16 → Fin 16 → Fin 2 → ℝ) :
    elimRow j.val (D (u3 col)) (D (u3 th)) = D (u3 fun b => elimR j (fun i => col b i 0) (th b)) := by
  unfold elimRow
  rw [both_row, dfMul_u3 _ _ col _ (app_bcol2 _ _) (app_brow2 _ _), dfSub_u3]
  rfl

/-- The kernel's column is sixteen jets' columns. -/
theorem cholStep_D (j : Fin 16) (c : Fin 16 → CholR) (hp : ∀ b, 0 < (c b).S j j) :
    cholStep j.val (liftC c) = liftC fun b => cholR j (c b) := by
  have hinv : dfRecip (dfSqrt (both (slF (T3 16 1 1) ![0, j.val, j.val]) (liftC c).S))
      = D (u3 fun b (_ : Fin 1) (_ : Fin 1) => 1 / √((c b).S j j)) := by
    unfold liftC
    rw [both_entry, dfSqrt_u3 _ fun x _ _ => hp x, dfRecip_u3 _ fun x _ _ => (Real.sqrt_pos.2 (hp x)).ne']
  have hcol : both (slF (T3 16 16 1) ![0, 0, j.val]) (liftC c).S = D (u3 fun b i (_ : Fin 1) => (c b).S i j) := by
    unfold liftC
    rw [both_lane]
  have hrow : both (slF (T3 16 1 16) ![0, j.val, 0]) (liftC c).S = D (u3 fun b (_ : Fin 1) k => (c b).S j k) := by
    unfold liftC
    rw [both_row]
  unfold cholStep
  rw [hinv, hcol, hrow]
  simp only []
  rw [dfMul_u3 .id _ _ _ (app_id3 _) (app_b111 _ _), dfMul_u3 .id _ _ _ (app_id3 _) (app_b11r _ _)]
  have hcz : both (fun x => mask (F := Ideal) (t := T3 16 16 1) (m := T3 1 16 1) (by decide)
        (cmpi .sgt colIx (broadcast _ (BitVec.ofNat 32 j))) x (bcs (s := T3 1 16 1) (by decide) (cst _ 0#32)))
      (D (u3 fun b i (_ : Fin 1) => (c b).S i j * (1 / √((c b).S j j))))
      = D (u3 fun b i (_ : Fin 1) => if j < i then (c b).S i j * (1 / √((c b).S j j)) else 0) := by
    refine both_D _ _ _ ?_ ?_
    · rw [bcs_zero, L_zero3]; exact mask_colGt _ _ _ _
    · rw [bcs_zero, L_zero3]; exact (mask_colGt _ _ _ _).trans (L_congr _ _ fun i => ite_self _)
  have hrz : both (fun x => mask (F := Ideal) (t := T3 16 1 16) (m := T3 1 1 16) (by decide)
        (cmpi .sgt rowIx (broadcast _ (BitVec.ofNat 32 j))) x (bcs (s := T3 1 1 16) (by decide) (cst _ 0#32)))
      (D (u3 fun b (_ : Fin 1) k => (c b).S j k * (1 / √((c b).S j j))))
      = D (u3 fun b (_ : Fin 1) k => if j < k then (c b).S j k * (1 / √((c b).S j j)) else 0) := by
    refine both_D _ _ _ ?_ ?_
    · rw [bcs_zero, L_zero3]; exact mask_rowGt _ _ _ _
    · rw [bcs_zero, L_zero3]; exact (mask_rowGt _ _ _ _).trans (L_congr _ _ fun i => ite_self _)
  rw [hcz, hrz]
  unfold liftC
  congr 1
  · by_cases h : j.val + 1 < 16
    · rw [if_pos h, dfMul_u3 _ _ _ _ (app_eCol _) (app_eRow _), dfSub_u3]
      simp only [cholR, if_pos h]
    · rw [if_neg h]
      simp only [cholR, if_neg h]
  · refine Prod.ext ?_ ?_
    · simp only [D1]
      rw [bcs_row]; exact mask_noEq _ _ _ _
    · simp only [D2]
      rw [L_zero3, bcs_row]; exact (mask_noEq _ _ _ _).trans (L_congr _ _ fun i => ite_self _)
  · refine Prod.ext ?_ ?_
    · simp only [D1]
      rw [bcs_111]; exact mask_rowEq _ _ _ _
    · simp only [D2]
      rw [L_zero3, bcs_111]; exact (mask_rowEq _ _ _ _).trans (L_congr _ _ fun i => ite_self _)
  · rw [scaleRow_D, elimRow_D]
    rfl

/-- The kernel's column of the back substitution is sixteen jets' columns. -/
theorem backStep_D (LT : Fin 16 → Fin 16 → Fin 16 → ℝ) (invd : Fin 16 → Fin 16 → ℝ) (j : Fin 16)
    (th : Fin 16 → Fin 16 → Fin 2 → ℝ) :
    backStep (D (u3 LT)) (D (u3 fun b (_ : Fin 1) k => invd b k)) j.val (D (u3 th))
      = D (u3 fun b => backR (LT b) (invd b) j (th b)) := by
  have hinv : both (slF (T3 16 1 1) ![0, 0, j.val]) (D (u3 fun b (_ : Fin 1) k => invd b k))
      = D (u3 fun b (_ : Fin 1) (_ : Fin 1) => invd b j) := by
    exact both_entry (0 : Fin 1) j _
  unfold backStep
  rw [hinv, scaleRow_D]
  by_cases h : 0 < j.val
  · rw [if_pos h]
    have hz : both (fun x => mask (F := Ideal) (t := T3 16 16 1) (m := T3 1 16 1) (by decide)
          (cmpi .slt colIx (broadcast _ (BitVec.ofNat 32 j))) (slF (T3 16 16 1) ![0, 0, j.val] x)
          (bcs (s := T3 1 16 1) (by decide) (cst _ 0#32))) (D (u3 LT))
        = D (u3 fun b i (_ : Fin 1) => if i < j then LT b i j else 0) := by
      refine both_D _ _ _ ?_ ?_
      · rw [bcs_zero, L_zero3, slF_lane]; exact mask_colLt _ _ _ _
      · rw [bcs_zero, L_zero3, L_zero3, slF_lane]; exact (mask_colLt _ _ _ _).trans (L_congr _ _ fun i => ite_self _)
    refine (congrArg (fun x => elimRow j.val x _) hz).trans ?_
    rw [elimRow_D]
    simp only [backR, if_pos h]
  · rw [if_neg h]
    simp only [backR, if_neg h]

/-- The first `k` columns of one jet's factorization. -/
def chain (c : CholR) : ℕ → CholR
  | 0 => c
  | k + 1 => if h : k < 16 then cholR ⟨k, h⟩ (chain c k) else chain c k
/-- The last `k` columns of one jet's back substitution. -/
def unwind (LT : Fin 16 → Fin 16 → ℝ) (invd : Fin 16 → ℝ) (th : Fin 16 → Fin 2 → ℝ) : ℕ → Fin 16 → Fin 2 → ℝ
  | 0 => th
  | k + 1 => if h : k < 16 then backR LT invd ⟨16 - 1 - k, by omega⟩ (unwind LT invd th k) else unwind LT invd th k

/-- The start of one jet's factorization. -/
def start (S : Fin 16 → Fin 16 → ℝ) (th : Fin 16 → Fin 2 → ℝ) : CholR :=
  { S := S, LT := fun _ _ => 0, invd := fun _ => 0, th := th }
/-- One jet's solution of the small system. -/
def solveR (S : Fin 16 → Fin 16 → ℝ) (th : Fin 16 → Fin 2 → ℝ) : Fin 16 → Fin 2 → ℝ :=
  let c := chain (start S th) 16
  unwind c.LT c.invd c.th 16

theorem chain_succ (c : CholR) (j : Fin 16) : chain c (j.val + 1) = cholR j (chain c j.val) := by
  rw [chain, dif_pos j.isLt]
theorem unwind_succ (LT : Fin 16 → Fin 16 → ℝ) (invd : Fin 16 → ℝ) (th : Fin 16 → Fin 2 → ℝ) (k : ℕ) (j : Fin 16)
    (hj : j.val = 16 - 1 - k) (hk : k < 16) : unwind LT invd th (k + 1) = backR LT invd j (unwind LT invd th k) := by
  rw [unwind, dif_pos hk]
  congr 1
  exact Fin.ext hj.symm

/-- The remaining matrices follow the elimination. -/
theorem chain_elim (c : CholR) : Elim fun k => (chain c k).S := by
  intro j i k hi hk
  have h : j.val + 1 < 16 := by have := i.isLt; have : j.val < i.val := hi; omega
  simp only [chain_succ, cholR, if_pos h, if_pos hi, if_pos hk]
  ring

/-- What the factor's finished rows hold. -/
theorem chain_LT (c : CholR) (i : Fin 16) (m : ℕ) (h : i.val < m) (hm : m ≤ 16) (k : Fin 16) :
    (chain c m).LT i k = (chain c i.val).S i k * (1 / √((chain c i.val).S i i)) := by
  induction m with
  | zero => omega
  | succ m ih =>
    have e := chain_succ c ⟨m, by omega⟩
    simp only at e
    rw [e]
    show (if i = ⟨m, by omega⟩ then _ else _) = _
    by_cases hi : i = ⟨m, by omega⟩
    · rw [if_pos hi, hi]
    · rw [if_neg hi]
      exact ih (by have : i.val ≠ m := fun q => hi (Fin.ext q)
                   omega) (by omega)
/-- What the diagonal's finished reciprocals hold. -/
theorem chain_invd (c : CholR) (i : Fin 16) (m : ℕ) (h : i.val < m) (hm : m ≤ 16) :
    (chain c m).invd i = 1 / √((chain c i.val).S i i) := by
  induction m with
  | zero => omega
  | succ m ih =>
    have e := chain_succ c ⟨m, by omega⟩
    simp only at e
    rw [e]
    show (if i = ⟨m, by omega⟩ then _ else _) = _
    by_cases hi : i = ⟨m, by omega⟩
    · rw [if_pos hi, hi]
    · rw [if_neg hi]
      exact ih (by have : i.val ≠ m := fun q => hi (Fin.ext q)
                   omega) (by omega)

/-- Every pivot of a positive symmetric matrix is positive. -/
theorem chain_pivot (S : Fin 16 → Fin 16 → ℝ) (th : Fin 16 → Fin 2 → ℝ) (hs : ∀ i k, S i k = S k i)
    (hp : ∀ x, x ≠ 0 → 0 < quad S x) (j : Fin 16) : 0 < (chain (start S th) j.val).S j j :=
  Elim.pivot (A := fun k => (chain (start S th) k).S) (chain_elim _) hs hp j

/-- The factorization and its substitutions solve the small system. -/
theorem solveR_sol (S : Fin 16 → Fin 16 → ℝ) (th : Fin 16 → Fin 2 → ℝ) (hs : ∀ i k, S i k = S k i)
    (hp : ∀ x, x ≠ 0 → 0 < quad S x) (q : Fin 2) (i : Fin 16) : ∑ k, S i k * solveR S th k q = th i q := by
  set c := chain (start S th) with hc
  refine Elim.solve (A := fun k => (c k).S) (chain_elim _) hs hp (fun k i => (c k).th i q) ?_
    (fun k i => unwind (c 16).LT (c 16).invd (c 16).th k i q) rfl ?_ i
  · intro j i
    simp only [hc, chain_succ, cholR, elimR, scaleR, if_true]
    by_cases h1 : i < j
    · rw [if_pos h1, if_neg h1.ne, if_neg (not_lt.2 h1.le)]; ring
    · rw [if_neg h1]
      by_cases h2 : i = j
      · subst h2; simp only [if_true, lt_irrefl, if_false]; ring
      · rw [if_neg h2, if_neg h2, if_pos (lt_of_le_of_ne (not_lt.1 h1) (Ne.symm h2))]; ring
  · intro k j i hj hk
    simp only [unwind_succ _ _ _ k j hj hk, backR]
    rw [show (c 16).invd j = _ from chain_invd _ j 16 j.isLt le_rfl]
    by_cases h0 : 0 < j.val
    · rw [if_pos h0]
      simp only [elimR, scaleR, if_true]
      by_cases h1 : j < i
      · rw [if_pos h1, if_neg h1.ne', if_neg (not_lt.2 h1.le)]; ring
      · rw [if_neg h1]
        by_cases h2 : i = j
        · subst h2; simp only [if_true, lt_irrefl, if_false]; ring
        · have h3 : i < j := lt_of_le_of_ne (not_lt.1 h1) h2
          rw [if_neg h2, if_neg h2, if_pos h3, show (c 16).LT i j = _ from chain_LT _ i 16 i.isLt le_rfl j,
            Elim.symm (A := fun k => (c k).S) (chain_elim _) hs i.val i j le_rfl h3.le]
          ring
    · rw [if_neg h0]
      simp only [scaleR]
      have hj0 : j.val = 0 := by omega
      by_cases h1 : j < i
      · rw [if_pos h1, if_neg h1.ne']
      · have h2 : i = j := Fin.ext (by have : ¬ j.val < i.val := h1
                                       omega)
        subst h2; simp only [if_true, lt_irrefl, if_false]; ring

/-- The kernel's solution of sixteen jets' small systems, two right-hand sides each. -/
theorem solveS_D (S : Fin 16 → Fin 16 → Fin 16 → ℝ) (r1 r2 : Fin 16 → Fin 16 → ℝ) (hs : ∀ b i k, S b i k = S b k i)
    (hp : ∀ b x, x ≠ 0 → 0 < quad (S b) x) :
    solveS (D (u3 S)) (D (u3 fun b (_ : Fin 1) k => r1 b k)) (D (u3 fun b (_ : Fin 1) k => r2 b k))
      = D (u3 fun b => solveR (S b) fun i q => if q = 0 then r1 b i else r2 b i) := by
  have h0 : (⟨D (u3 S), (cst _ 0#32, cst _ 0#32), (cst _ 0#32, cst _ 0#32),
      (cat2 (trRow (D (u3 fun b (_ : Fin 1) k => r1 b k)).1) (trRow (D (u3 fun b (_ : Fin 1) k => r2 b k)).1),
             cat2 (trRow (D (u3 fun b (_ : Fin 1) k => r1 b k)).2) (trRow (D (u3 fun b (_ : Fin 1) k => r2 b k)).2))⟩ : Chol Ideal)
      = liftC fun b => start (S b) fun i q => if q = 0 then r1 b i else r2 b i := by
    simp only [L_zero, D1, D2, L_zero3, trRow_L, cat2_L, ite_self]
    rfl
  have hup : ∀ m, m ≤ 16 → up cholStep m (liftC fun b => start (S b) fun i q => if q = 0 then r1 b i else r2 b i)
      = liftC fun b => chain (start (S b) fun i q => if q = 0 then r1 b i else r2 b i) m := by
    intro m hm
    induction m with
    | zero => rfl
    | succ m ih =>
      rw [up, ih (by omega)]
      refine (cholStep_D ⟨m, by omega⟩ _ fun b => chain_pivot _ _ (hs b) (hp b) ⟨m, by omega⟩).trans ?_
      exact congrArg liftC (funext fun b => (chain_succ _ ⟨m, by omega⟩).symm)
  have hdn : ∀ (c : Fin 16 → CholR) m, m ≤ 16 → down 16 (backStep (liftC c).LT (liftC c).invd) m (liftC c).th
      = D (u3 fun b => unwind (c b).LT (c b).invd (c b).th m) := by
    intro c m hm
    induction m with
    | zero => rfl
    | succ m ih =>
      rw [down, ih (by omega)]
      refine (backStep_D (fun b => (c b).LT) (fun b => (c b).invd) ⟨16 - 1 - m, by omega⟩ _).trans ?_
      exact congrArg (fun f => D (u3 f)) (funext fun b => (unwind_succ _ _ _ m ⟨16 - 1 - m, by omega⟩ rfl (by omega)).symm)
  unfold solveS
  rw [h0, hup 16 le_rfl, hdn _ 16 le_rfl]
  rfl

end Emd
-- ==== Proof.Spec.lean ====
module

public import proofs.«01_k».proof.Proof.Newton
public import proofs.«01_k».proof.Proof.Lift
public import Mathlib.Data.Finset.Lattice.Fold

/-!
# One interior-point step of one jet pair over the reals

Both programs are shown to take this step.
-/

@[expose] public section
noncomputable section

namespace Emd
open Finset Idealize.ShloMosaic

/-- A square of reals. -/
abbrev Mx : Type := Fin 16 → Fin 16 → ℝ
/-- A line of reals. -/
abbrev Vx : Type := Fin 16 → ℝ

/-- The word of the quadratic term. -/
def L2 : ℝ := wr 0x38D1B717#32
/-- The word of what the first leaves out. -/
def LO : ℝ := wr 0x2C31C433#32
/-- The floor under slacks and multipliers. -/
def flr : ℝ := wr 0x15F79688#32
/-- The bound the kernel takes where a value does not fall. -/
def big : ℝ := wr 0x7149F2CA#32
/-- The centering. -/
def sig : ℝ := wr 0x3DCCCCCD#32
/-- The share of the way to the nearest bound. -/
def shr : ℝ := wr 0x3F7D70A4#32

theorem L2_pos : 0 < L2 := wr_pos _ (by decide) (by decide) (by decide)
theorem LO_pos : 0 < LO := wr_pos _ (by decide) (by decide) (by decide)
theorem flr_pos : 0 < flr := wr_pos _ (by decide) (by decide) (by decide)
theorem big_one : 1 ≤ big := by
  unfold big wr
  simp [Ideal.ofBits, Ideal.ieee, -EReal.coe_mul]; norm_num

/-- The solution of the Newton system where there is one. -/
def sol (e : Mx) (dr dc : Vx) (r : Mx) : Mx :=
  open Classical in if h : ∃ u, IsSol e dr dc r u then h.choose else 0

/-- A solution is the solution. -/
theorem sol_eq {e : Mx} {dr dc : Vx} (he : ∀ i j, 0 < e i j) (hr : ∀ i, 0 < dr i) (hc : ∀ j, 0 < dc j) {r u : Mx}
    (h : IsSol e dr dc r u) : sol e dr dc r = u := by
  have hx : ∃ u, IsSol e dr dc r u := ⟨u, h⟩
  unfold sol
  rw [dif_pos hx]
  exact IsSol.unique he hr hc hx.choose_spec h

/-- The balance multiplier's direction. -/
def dyS (e : Mx) (dr dc : Vx) (r : Mx) (ra : ℝ) : ℝ :=
  (ra - ∑ i, ∑ j, sol e dr dc r i j) / ∑ i, ∑ j, sol e dr dc (fun _ _ => 1) i j
/-- The flow's direction. -/
def dXS (e : Mx) (dr dc : Vx) (r : Mx) (ra : ℝ) : Mx := fun i j =>
  - sol e dr dc r i j - sol e dr dc (fun _ _ => 1) i j * dyS e dr dc r ra

/-- What the loop carries for one jet pair. -/
structure Jet where
  /-- the flow -/
  X : Mx
  /-- the flow's slacks -/
  s : Mx
  /-- the flow's multipliers -/
  z : Mx
  /-- the rows' slacks -/
  sr : Vx
  /-- the rows' multipliers -/
  zr : Vx
  /-- the columns' slacks -/
  sc : Vx
  /-- the columns' multipliers -/
  zc : Vx
  /-- the balance's multiplier -/
  y : ℝ

/-- Slacks and multipliers are positive. -/
structure Jet.Pos (c : Jet) : Prop where
  s : ∀ i j, 0 < c.s i j
  z : ∀ i j, 0 < c.z i j
  sr : ∀ i, 0 < c.sr i
  zr : ∀ i, 0 < c.zr i
  sc : ∀ i, 0 < c.sc i
  zc : ∀ i, 0 < c.zc i

/-- The start. -/
def jet0 : Jet := ⟨fun _ _ => 0, fun _ _ => 1, fun _ _ => 1, fun _ => 1, fun _ => 1, fun _ => 1, fun _ => 1, 0⟩

theorem jet0_pos : jet0.Pos := by
  constructor <;> intros <;> exact one_pos

/-- The bound one value's change sets on the step. -/
def bnd (x dx : ℝ) : EReal := if dx < 0 then (((0 - x) / dx : ℝ) : EReal) else ⊤

/-- The multiplier's direction. -/
def dzS (x z rs dx : ℝ) : ℝ := (0 - rs - z * dx) / x
/-- The residual's share of one kind of constraint. -/
def gS (x z rs rp : ℝ) : ℝ := (z * rp - rs) / x
/-- A value moved and held at the floor. -/
def mvS (x a dx : ℝ) : ℝ := max (x + a * dx) flr

section
variable (p : Mx) (w1 w2 : Vx) (b : ℝ) (c : Jet)

/-- The centered mean of the products. -/
def smuS : ℝ := sig * ((∑ i, ∑ j, c.s i j * c.z i j + ∑ i, c.sr i * c.zr i + ∑ i, c.sc i * c.zc i) * (1 / 288))
/-- The flow's primal residual. -/
def rpS : Mx := fun i j => c.s i j - c.X i j
/-- The rows' primal residual. -/
def rprS : Vx := fun i => ∑ k, c.X i k + c.sr i - w1 i
/-- The columns' primal residual. -/
def rpcS : Vx := fun j => ∑ k, c.X k j + c.sc j - w2 j
/-- The flow's centering residual. -/
def rsS : Mx := fun i j => c.s i j * c.z i j - smuS c
/-- The rows' centering residual. -/
def rsrS : Vx := fun i => c.sr i * c.zr i - smuS c
/-- The columns' centering residual. -/
def rscS : Vx := fun i => c.sc i * c.zc i - smuS c
/-- The Newton system's right-hand side. -/
def r1S : Mx := fun i j => L2 * c.X i j + p i j - c.z i j + c.zr i + c.zc j + c.y - gS (c.s i j) (c.z i j) (rsS c i j) (rpS c i j)
  + gS (c.sr i) (c.zr i) (rsrS c i) (rprS w1 c i) + gS (c.sc j) (c.zc j) (rscS c j) (rpcS w2 c j)
/-- The Newton system's diagonal. -/
def eS : Mx := fun i j => L2 + LO + c.z i j / c.s i j
/-- The rows' weights. -/
def drS : Vx := fun i => c.zr i / c.sr i
/-- The columns' weights. -/
def dcS : Vx := fun i => c.zc i / c.sc i
/-- The balance's residual. -/
def raS : ℝ := ∑ i, ∑ j, c.X i j - b
/-- The flow's direction. -/
def dX : Mx := dXS (eS c) (drS c) (dcS c) (r1S p w1 w2 c) (raS b c)
/-- The balance multiplier's direction. -/
def dY : ℝ := dyS (eS c) (drS c) (dcS c) (r1S p w1 w2 c) (raS b c)
/-- The flow's slacks' direction. -/
def dsS : Mx := fun i j => dX p w1 w2 b c i j - rpS c i j
/-- The rows' slacks' direction. -/
def dsrS : Vx := fun i => 0 - rprS w1 c i - ∑ k, dX p w1 w2 b c i k
/-- The columns' slacks' direction. -/
def dscS : Vx := fun j => 0 - rpcS w2 c j - ∑ k, dX p w1 w2 b c k j
/-- The flow's multipliers' direction. -/
def dz1S : Mx := fun i j => dzS (c.s i j) (c.z i j) (rsS c i j) (dsS p w1 w2 b c i j)
/-- The rows' multipliers' direction. -/
def dzrS : Vx := fun i => dzS (c.sr i) (c.zr i) (rsrS c i) (dsrS p w1 w2 b c i)
/-- The columns' multipliers' direction. -/
def dzcS : Vx := fun i => dzS (c.sc i) (c.zc i) (rscS c i) (dscS p w1 w2 b c i)

/-- The way to the nearest bound, one at most. -/
def capE : EReal :=
  min 1 (min
    (min (univ.inf fun i => univ.inf fun j => bnd (c.s i j) (dsS p w1 w2 b c i j))
      (min (univ.inf fun i => bnd (c.sr i) (dsrS p w1 w2 b c i)) (univ.inf fun i => bnd (c.sc i) (dscS p w1 w2 b c i))))
    (min (univ.inf fun i => univ.inf fun j => bnd (c.z i j) (dz1S p w1 w2 b c i j))
      (min (univ.inf fun i => bnd (c.zr i) (dzrS p w1 w2 b c i)) (univ.inf fun i => bnd (c.zc i) (dzcS p w1 w2 b c i)))))

/-- The step's length. -/
def alS : ℝ := shr * (capE p w1 w2 b c).toReal

/-- One step. -/
def stepS : Jet where
  X := fun i j => c.X i j + alS p w1 w2 b c * dX p w1 w2 b c i j
  s := fun i j => mvS (c.s i j) (alS p w1 w2 b c) (dsS p w1 w2 b c i j)
  z := fun i j => mvS (c.z i j) (alS p w1 w2 b c) (dz1S p w1 w2 b c i j)
  sr := fun i => mvS (c.sr i) (alS p w1 w2 b c) (dsrS p w1 w2 b c i)
  zr := fun i => mvS (c.zr i) (alS p w1 w2 b c) (dzrS p w1 w2 b c i)
  sc := fun i => mvS (c.sc i) (alS p w1 w2 b c) (dscS p w1 w2 b c i)
  zc := fun i => mvS (c.zc i) (alS p w1 w2 b c) (dzcS p w1 w2 b c i)
  y := c.y + alS p w1 w2 b c * dY p w1 w2 b c

/-- A step leaves slacks and multipliers positive. -/
theorem stepS_pos : (stepS p w1 w2 b c).Pos := by
  constructor <;> intros <;> exact lt_of_lt_of_le flr_pos (le_max_right _ _)

theorem bnd_bot (x dx : ℝ) : ⊥ < bnd x dx := by
  unfold bnd; split_ifs
  · exact EReal.bot_lt_coe _
  · exact bot_lt_top

/-- The way to the nearest bound is a real. -/
theorem capE_real : capE p w1 w2 b c = (((capE p w1 w2 b c).toReal : ℝ) : EReal) := by
  refine (EReal.coe_toReal ?_ ?_).symm
  · exact (lt_of_le_of_lt (min_le_left _ _) (EReal.coe_lt_top 1)).ne
  · refine ne_of_gt ?_
    unfold capE
    simp only [lt_min_iff, Finset.lt_inf_iff bot_lt_top, bnd_bot, implies_true, and_true]
    exact EReal.bot_lt_coe 1

end

/-- `k` steps from the start. -/
def iterS (p : Mx) (w1 w2 : Vx) (b : ℝ) : ℕ → Jet
  | 0 => jet0
  | k + 1 => stepS p w1 w2 b (iterS p w1 w2 b k)

theorem iterS_pos (p : Mx) (w1 w2 : Vx) (b : ℝ) (k : ℕ) : (iterS p w1 w2 b k).Pos := by
  cases k with
  | zero => exact jet0_pos
  | succ k => exact stepS_pos _ _ _ _ _

/-- The result for one jet pair after eighteen steps. -/
def emdS (p : Mx) (w1 w2 : Vx) : ℝ :=
  ∑ i, ∑ j, p i j * (iterS p w1 w2 (min (∑ i, w1 i) (∑ i, w2 i)) 18).X i j + |∑ i, w1 i - ∑ i, w2 i|

section
variable {c : Jet} (h : c.Pos)
include h
theorem eS_pos (i j : Fin 16) : 0 < eS c i j := add_pos (add_pos L2_pos LO_pos) (div_pos (h.z i j) (h.s i j))
theorem drS_pos (i : Fin 16) : 0 < drS c i := div_pos (h.zr i) (h.sr i)
theorem dcS_pos (i : Fin 16) : 0 < dcS c i := div_pos (h.zc i) (h.sc i)
end

end Emd
-- ==== Proof.KernelStep.lean ====
module

public import proofs.«01_k».proof.Proof.Factor
public import proofs.«01_k».proof.Proof.Spec

/-!
# The kernel's step over the reals

On sixteen jet pairs with positive slacks and multipliers the kernel's step is the step of each pair.
-/

@[expose] public section
noncomputable section

namespace Emd
open Idealize.ShloMosaic Finset

/-- The complement's updates take one row's outer product off at a time. -/
theorem up_schur (E : Fin 16 → Fin 16 → Fin 16 → ℝ) (K : Fin 16 → Fin 16 → ℝ) (S : Fin 16 → Fin 16 → Fin 16 → ℝ) :
    up (schurStep (D (u3 E)) (D (u3 fun b x y => E b y x)) (D (u3 fun b x (_ : Fin 1) => K b x))) 16 (D (u3 S))
      = D (u3 fun b x y => S b x y - ∑ i, E b i x * K b i * E b i y) := by
  have step : ∀ (i : Fin 16) (T : Fin 16 → Fin 16 → Fin 16 → ℝ),
      schurStep (D (u3 E)) (D (u3 fun b x y => E b y x)) (D (u3 fun b x (_ : Fin 1) => K b x)) i.val (D (u3 T))
        = D (u3 fun b x y => T b x y - E b i x * K b i * E b i y) := by
    intro i T
    unfold schurStep
    have e1 : both (slF (F := Ideal) (T3 16 1 1) ![0, i.val, 0]) (D (u3 fun b x (_ : Fin 1) => K b x))
        = D (u3 fun b (_ : Fin 1) (_ : Fin 1) => K b i) := both_entry i (0 : Fin 1) _
    rw [both_lane, e1, both_row, dfMul_u3 .id _ _ _ (app_id3 _) (app_b111 _ _),
      dfMul_u3 _ _ _ _ (app_eCol _) (app_eRow _), dfSub_u3]
  have main : ∀ m, m ≤ 16 → up (schurStep (D (u3 E)) (D (u3 fun b x y => E b y x)) (D (u3 fun b x (_ : Fin 1) => K b x))) m (D (u3 S))
      = D (u3 fun b x y => S b x y - ∑ i : Fin 16, if i.val < m then E b i x * K b i * E b i y else 0) := by
    intro m hm
    induction m with
    | zero =>
      rw [up]
      refine D_congr _ _ fun i => ?_
      simp [u3]
    | succ m ih =>
      rw [up, ih (by omega)]
      refine (step ⟨m, by omega⟩ _).trans (D_congr _ _ fun q => ?_)
      simp only [u3]
      rw [sub_sub]
      congr 1
      have : ∀ i : Fin 16, (if i.val < m + 1 then E (q 0) i (q 1) * K (q 0) i * E (q 0) i (q 2) else 0)
          = (if i.val < m then E (q 0) i (q 1) * K (q 0) i * E (q 0) i (q 2) else 0)
            + if i = ⟨m, by omega⟩ then E (q 0) i (q 1) * K (q 0) i * E (q 0) i (q 2) else 0 := by
        intro i
        by_cases h1 : i.val < m
        · rw [if_pos h1, if_pos (by omega), if_neg (fun h => by rw [h] at h1; exact lt_irrefl _ h1), add_zero]
        · by_cases h2 : i = ⟨m, by omega⟩
          · rw [if_neg h1, if_pos h2, if_pos (by rw [h2]; exact Nat.lt_succ_self m), zero_add]
          · rw [if_neg h1, if_neg h2, if_neg (fun h => h2 (Fin.ext (by show i.val = m; omega))), add_zero]
      simp only [this, sum_add_distrib, sum_ite_eq', mem_univ, if_true]
  rw [main 16 le_rfl]
  refine D_congr _ _ fun q => ?_
  simp only [u3, Fin.is_lt, if_true]

theorem L_plus0 {a b c : ℕ} (f : Fin a → Fin b → Fin c → ℝ) : addf (L (u3 f)) (L (u3 fun _ _ _ => 0)) = L (u3 f) := by
  rw [L_add3]; simp only [add_zero]

theorem schur0_D (K : Fin 16 → Fin 16 → ℝ) :
    schur0 (D (u3 fun b (_ : Fin 1) k => K b k)) = D (u3 fun b j k => if j = k then K b k else 0) := by
  refine both_D _ _ _ ?_ ?_
  · rw [L_app, app_eRow, L_zero, L_zero3, L_plus0]; exact mask_eye _ _ _
  · rw [L_app, L_zero, L_zero3, show eRow.app (fun _ => (0 : ℝ)) = u3 fun _ _ _ => 0 from rfl, L_plus0]
    exact (mask_eye _ _ _).trans (L_congr _ _ fun i => ite_self _)

theorem spreadCol_D (f : Fin 16 → Fin 16 → Fin 1 → ℝ) :
    both (fun x => addf (eCol.app x) (cst (F := Ideal) _ 0#32)) (D (u3 f)) = D (u3 fun x y (_ : Fin 16) => f x y 0) := by
  refine both_D _ _ _ ?_ ?_
  · rw [L_app, app_eCol, L_zero, L_zero3, L_plus0]
  · rw [L_app, L_zero, show eCol.app (fun _ => (0 : ℝ)) = u3 fun _ _ _ => 0 from rfl, L_zero3, L_plus0]
theorem spreadRow_D (f : Fin 16 → Fin 1 → Fin 16 → ℝ) :
    both (fun x => addf (eRow.app x) (cst (F := Ideal) _ 0#32)) (D (u3 f)) = D (u3 fun x (_ : Fin 16) z => f x 0 z) := by
  refine both_D _ _ _ ?_ ?_
  · rw [L_app, app_eRow, L_zero, L_zero3, L_plus0]
  · rw [L_app, L_zero, show eRow.app (fun _ => (0 : ℝ)) = u3 fun _ _ _ => 0 from rfl, L_zero3, L_plus0]
theorem spread1_D (h : (T3 16 1 1).Broadcasts (T3 16 16 16)) (f : Fin 16 → Fin 1 → Fin 1 → ℝ) :
    both (fun x => addf (broadcastTo (T3 16 16 16) x h) (cst (F := Ideal) _ 0#32)) (D (u3 f))
      = D (u3 fun x (_ : Fin 16) (_ : Fin 16) => f x 0 0) := by
  refine both_D _ _ _ ?_ ?_
  · rw [bc3_L, L_zero, L_zero3, L_plus0]
  · rw [L_zero, L_zero3, L_zero3, bc3_L, L_plus0]

/-- The full solution of sixteen jets from the small one. -/
theorem backOut_D (e : Fin 16 → Mx) (dr : Fin 16 → Vx) (t : Fin 16 → Mx) (a w : Fin 16 → Vx) :
    backOut (D (u3 fun b => eE (e b))) (D (u3 fun b i (_ : Fin 1) => iK (e b) (dr b) i)) (D (u3 t))
      (D (u3 fun b i (_ : Fin 1) => a b i)) (D (u3 fun b i (_ : Fin 1) => w b i))
      = D (u3 fun b => full (e b) (dr b) (t b) (a b) (w b)) := by
  unfold backOut
  simp only [both_trCol]
  rw [dfMul_u3 .id _ _ _ (app_id3 _) (app_eRow _), sumLanes_D, dfSub_u3, dfMul_u3 .id .id _ _ (app_id3 _) (app_id3 _),
    spreadCol_D, spreadRow_D, dfAdd_u3, dfMul_u3 .id .id _ _ (app_id3 _) (app_id3 _), dfSub_u3]
  rfl

/-- One jet's solutions of its small system for both right-hand sides. -/
def small (e : Mx) (dr dc : Vx) (r : Mx) : Fin 16 → Fin 2 → ℝ :=
  solveR (schur e dr dc) fun i q => if q = 0 then srhs e dr (fun i j => eE e i j * r i j) (fun i => ∑ j, eE e i j * r i j) i
    else srhs e dr (eE e) (fun i => ∑ j, eE e i j) i

theorem small_u {e : Mx} {dr dc : Vx} (he : ∀ i j, 0 < e i j) (hr : ∀ i, 0 < dr i) (hc : ∀ j, 0 < dc j) (r : Mx) :
    full e dr (fun i j => eE e i j * r i j) (fun i => ∑ j, eE e i j * r i j) (fun k => small e dr dc r k 0) = sol e dr dc r :=
  (sol_eq he hr hc (full_isSol he hr hc r _ _ _ (fun _ _ => rfl) (fun _ => rfl) fun j =>
    (solveR_sol _ _ (schur_symm e dr dc) (schur_pos he hr hc) 0 j).trans (if_pos rfl))).symm
theorem small_v {e : Mx} {dr dc : Vx} (he : ∀ i j, 0 < e i j) (hr : ∀ i, 0 < dr i) (hc : ∀ j, 0 < dc j) (r : Mx) :
    full e dr (eE e) (fun i => ∑ j, eE e i j) (fun k => small e dr dc r k 1) = sol e dr dc (fun _ _ => 1) :=
  (sol_eq he hr hc (full_isSol he hr hc (fun _ _ => 1) _ _ _ (fun _ _ => (mul_one _).symm) (fun _ => rfl) fun j =>
    (solveR_sol _ _ (schur_symm e dr dc) (schur_pos he hr hc) 1 j).trans (if_neg (by decide)))).symm

/-- The sum of the solution for ones is positive. -/
theorem sol_one_pos {e : Mx} {dr dc : Vx} (he : ∀ i j, 0 < e i j) (hr : ∀ i, 0 < dr i) (hc : ∀ j, 0 < dc j) :
    0 < ∑ i, ∑ j, sol e dr dc (fun _ _ => 1) i j := by
  rw [← small_v he hr hc fun _ _ => 1]
  exact IsSol.sum_pos he hr hc (full_isSol he hr hc (fun _ _ => 1) _ _ _ (fun _ _ => (mul_one _).symm) (fun _ => rfl) fun j =>
    (solveR_sol _ _ (schur_symm e dr dc) (schur_pos he hr hc) 1 j).trans (if_neg (by decide)))

/-- The kernel's Newton direction is each jet's. -/
theorem newton_L (d : Fin 16 → Mx) (dr dc : Fin 16 → Vx) (r : Fin 16 → Mx) (ra : Fin 16 → ℝ)
    (hd : ∀ b i j, 0 < d b i j) (hr : ∀ b i, 0 < dr b i) (hc : ∀ b j, 0 < dc b j) :
    newton (F := Ideal) (L (u3 d)) (L (u2 dr)) (L (u2 dc)) (L (u3 r)) (L (u3 fun b (_ : Fin 1) (_ : Fin 1) => ra b))
      = (L (u3 fun b => dXS (fun i j => L2 + LO + d b i j) (dr b) (dc b) (r b) (ra b)),
         L (u3 fun b (_ : Fin 1) (_ : Fin 1) => dyS (fun i j => L2 + LO + d b i j) (dr b) (dc b) (r b) (ra b))) := by
  have he : ∀ b i j, 0 < (fun i j => L2 + LO + d b i j : Mx) i j := fun b i j => add_pos (add_pos L2_pos LO_pos) (hd b i j)
  have hE : dfRecip (dfAdd (cst (T3 16 16 16) 0x38D1B717#32, cst _ 0x2C31C433#32) (dfOf (L (u3 d))))
      = D (u3 fun b => eE fun i j => L2 + LO + d b i j) := by
    rw [L_cst _ L2 (w_real _ (by decide)), L_cst _ LO (w_real _ (by decide)), dfOf, L_zero, dfAdd_L]
    have : (D fun i => L2 + LO + (u3 d i + 0)) = D (u3 fun b i j => L2 + LO + d b i j) :=
      D_congr _ _ fun i => by simp only [add_zero]; rfl
    rw [this, dfRecip_u3 _ fun b i j => (he b i j).ne']
    rfl
  have hrk : ∀ b i, 0 < 1 / dr b i + ∑ j, eE (fun i j => L2 + LO + d b i j) i j := fun b i =>
    add_pos_of_pos_of_nonneg (one_div_pos.2 (hr b i)) (sum_nonneg fun j _ => (one_div_pos.2 (he b i j)).le)
  unfold newton
  simp only []
  rw [hE, asCol_L, asRow_L, dfOf_L, dfOf_L, dfOf_L, dfOf_L, sumLanes_D, sumSub_D,
    dfRecip_u3 _ fun b i _ => (hr b i).ne', dfRecip_u3 _ fun b _ j => (hc b j).ne', dfAdd_u3, dfAdd_u3,
    dfRecip_u3 _ fun b i _ => (hrk b i).ne', both_trCube]
  have hS : up (schurStep (D (u3 fun b => eE fun i j => L2 + LO + d b i j)) (D (u3 fun b x y => eE (fun i j => L2 + LO + d b i j) y x))
      (D (u3 fun b x (_ : Fin 1) => 1 / (1 / dr b x + ∑ j, eE (fun i j => L2 + LO + d b i j) x j)))) 16
      (schur0 (D (u3 fun b (_ : Fin 1) z => 1 / dc b z + ∑ i, eE (fun i j => L2 + LO + d b i j) i z)))
      = D (u3 fun b => schur (fun i j => L2 + LO + d b i j) (dr b) (dc b)) := by
    rw [schur0_D, up_schur]; rfl
  rw [hS, dfMul_u3 .id .id _ _ (app_id3 _) (app_id3 _), sumLanes_D, sumSub_D,
    dfMul_u3 .id .id _ _ (app_id3 _) (app_id3 _), dfMul_u3 .id .id _ _ (app_id3 _) (app_id3 _),
    dfMul_u3 .id _ _ _ (app_id3 _) (app_eCol _), dfMul_u3 .id _ _ _ (app_id3 _) (app_eCol _), sumSub_D, sumSub_D,
    dfSub_u3, dfSub_u3]
  have hth := solveS_D (fun b => schur (fun i j => L2 + LO + d b i j) (dr b) (dc b))
    (fun b => srhs (fun i j => L2 + LO + d b i j) (dr b) (fun i j => eE (fun i j => L2 + LO + d b i j) i j * r b i j)
      (fun i => ∑ j, eE (fun i j => L2 + LO + d b i j) i j * r b i j))
    (fun b => srhs (fun i j => L2 + LO + d b i j) (dr b) (eE (fun i j => L2 + LO + d b i j))
      (fun i => ∑ j, eE (fun i j => L2 + LO + d b i j) i j))
    (fun b => schur_symm _ _ _) (fun b => schur_pos (he b) (hr b) (hc b))
  have hth' := hth.trans (show _ = D (u3 fun b => small (fun i j => L2 + LO + d b i j) (dr b) (dc b) (r b)) from rfl)
  generalize hT : solveS (F := Ideal) _ _ _ = T
  obtain rfl : T = _ := hT.symm.trans hth'
  have e0 : both (slF (F := Ideal) (T3 16 16 1) ![0, 0, 0])
      (D (u3 fun b => small (fun i j => L2 + LO + d b i j) (dr b) (dc b) (r b)))
      = D (u3 fun b i (_ : Fin 1) => small (fun i j => L2 + LO + d b i j) (dr b) (dc b) (r b) i 0) := both_lane (0 : Fin 2) _
  have e1 : both (slF (F := Ideal) (T3 16 16 1) ![0, 0, 1])
      (D (u3 fun b => small (fun i j => L2 + LO + d b i j) (dr b) (dc b) (r b)))
      = D (u3 fun b i (_ : Fin 1) => small (fun i j => L2 + LO + d b i j) (dr b) (dc b) (r b) i 1) := both_lane (1 : Fin 2) _
  rw [e0, e1]
  have hu := backOut_D (fun b i j => L2 + LO + d b i j) dr
    (fun b i j => eE (fun i j => L2 + LO + d b i j) i j * r b i j)
    (fun b i => ∑ j, eE (fun i j => L2 + LO + d b i j) i j * r b i j)
    (fun b i => small (fun i j => L2 + LO + d b i j) (dr b) (dc b) (r b) i 0)
  have hv := backOut_D (fun b i j => L2 + LO + d b i j) dr (fun b => eE fun i j => L2 + LO + d b i j)
    (fun b i => ∑ j, eE (fun i j => L2 + LO + d b i j) i j)
    (fun b i => small (fun i j => L2 + LO + d b i j) (dr b) (dc b) (r b) i 1)
  simp only [fun b => small_u (he b) (hr b) (hc b) (r b)] at hu
  simp only [fun b => small_v (he b) (hr b) (hc b) (r b)] at hv
  generalize hU : backOut (F := Ideal) _ _ _ _ (D (u3 fun b i (_ : Fin 1) => small (fun i j => L2 + LO + d b i j) (dr b) (dc b) (r b) i 0)) = U
  obtain rfl : U = _ := hU.symm.trans hu
  generalize hV : backOut (F := Ideal) _ _ _ _ (D (u3 fun b i (_ : Fin 1) => small (fun i j => L2 + LO + d b i j) (dr b) (dc b) (r b) i 1)) = V
  obtain rfl : V = _ := hV.symm.trans hv
  have hpos : ∀ b, (∑ i, ∑ j, sol (fun i j => L2 + LO + d b i j) (dr b) (dc b) (fun _ _ => 1) i j) ≠ 0 := fun b =>
    (sol_one_pos (he b) (hr b) (hc b)).ne'
  rw [sumLanes_D, sumSub_D, sumLanes_D, sumSub_D, dfSub_u3, dfDiv_u3 _ _ fun b _ _ => hpos b, dfNeg_u3,
    spread1_D, dfMul_u3 .id .id _ _ (app_id3 _) (app_id3 _), dfSub_u3]
  rfl

/-! ### The whole step -/

/-- Sixteen jets as the loop's values. -/
def liftJ (c : Fin 16 → Jet) : Carry Ideal :=
  (L (u3 fun b => (c b).X), L (u3 fun b => (c b).s), L (u3 fun b => (c b).z), L (u2 fun b => (c b).sr), L (u2 fun b => (c b).zr),
    L (u2 fun b => (c b).sc), L (u2 fun b => (c b).zc), L (u3 fun b (_ : Fin 1) (_ : Fin 1) => (c b).y))

/-- The bound the kernel takes for one value. -/
def bndK (x dx : ℝ) : ℝ := if dx < 0 then (0 - x) / dx else big

theorem ratio_L {s : Shape} (x dx : s.Idx → ℝ) : ratio (F := Ideal) (L x) (L dx) = L fun i => bndK (x i) (dx i) := by
  funext i
  have h0 : cst (F := Ideal) s 0#32 i = ((0 : ℝ) : EReal) := w0
  have hb : cst (F := Ideal) s 0x7149F2CA#32 i = ((big : ℝ) : EReal) := w_real 0x7149F2CA#32 (by decide)
  show Scalar.select (BitVec.ofBool (decide ((dx i : EReal) < cst (F := Ideal) s 0#32 i)))
    (Ideal.div (cst (F := Ideal) s 0#32 i - (x i : EReal))
      (Scalar.select (BitVec.ofBool (decide ((dx i : EReal) < cst (F := Ideal) s 0#32 i))) (dx i : EReal)
        (cst (F := Ideal) s 0#32 i - cst (F := Ideal) s 0x3F800000#32 i))) (cst (F := Ideal) s 0x7149F2CA#32 i) = ((bndK (x i) (dx i) : ℝ) : EReal)
  rw [h0, hb]
  unfold bndK
  by_cases h : dx i < 0
  · have h' : ((dx i : ℝ) : EReal) < ((0 : ℝ) : EReal) := by exact_mod_cast h
    simp only [h', decide_true, BitVec.ofBool_true, Scalar.select, if_true, if_pos h]
    rw [← EReal.coe_sub, div_real _ _ h.ne]
  · have h' : ¬ ((dx i : ℝ) : EReal) < ((0 : ℝ) : EReal) := by exact_mod_cast h
    simp only [h', decide_false, BitVec.ofBool_false, Scalar.select, if_neg h]
    rfl

theorem min_bnd (x dx : ℝ) : min 1 ((bndK x dx : ℝ) : EReal) = min 1 (bnd x dx) := by
  unfold bndK bnd
  by_cases h : dx < 0
  · rw [if_pos h, if_pos h]
  · rw [if_neg h, if_neg h, min_eq_left (by exact_mod_cast big_one), min_eq_left le_top]

theorem le_bnd (x dx : ℝ) (c : EReal) (hc : c ≤ 1) : c ≤ ((bndK x dx : ℝ) : EReal) ↔ c ≤ bnd x dx := by
  have := min_bnd x dx
  constructor
  · intro h; exact (le_min_iff.1 (this ▸ le_min hc h)).2
  · intro h; exact (le_min_iff.1 (this.symm ▸ le_min hc h)).2

/-- What the least of a jet's square is at least. -/
theorem le_ratio3 (x dx : Fin 16 → Mx) (c : EReal) (b : Fin 16) (y z : Fin 1) :
    c ≤ ratio3 (F := Ideal) (L (u3 x)) (L (u3 dx)) (ix3 b y z) ↔ ∀ i j, c ≤ ((bndK (x b i j) (dx b i j) : ℝ) : EReal) := by
  unfold ratio3
  rw [ratio_L]
  pointwise [L, u3]
  rw [winf, Finset.le_fold_min]
  simp only [le_top, true_and, mem_univ, forall_const, Prod.forall]
theorem le_ratio2 (x dx : Fin 16 → Vx) (c : EReal) (b : Fin 16) (y z : Fin 1) :
    c ≤ ratio2 (F := Ideal) (L (u2 x)) (L (u2 dx)) (ix3 b y z) ↔ ∀ i, c ≤ ((bndK (x b i) (dx b i) : ℝ) : EReal) := by
  unfold ratio2
  rw [ratio_L]
  pointwise [L, u2]
  rw [winf, Finset.le_fold_min]
  simp only [le_top, true_and, mem_univ, forall_const]

/-- The kernel's way to the nearest bound is each jet's. -/
theorem cap_L (p : Fin 16 → Mx) (w1 w2 : Fin 16 → Vx) (bb : Fin 16 → ℝ) (c : Fin 16 → Jet) :
    minimumf (F := Ideal) (cst (T3 16 1 1) 0x3F800000#32) (minimumf
      (minimumf (ratio3 (L (u3 fun b => (c b).s)) (L (u3 fun b => dsS (p b) (w1 b) (w2 b) (bb b) (c b))))
        (minimumf (ratio2 (L (u2 fun b => (c b).sr)) (L (u2 fun b => dsrS (p b) (w1 b) (w2 b) (bb b) (c b))))
          (ratio2 (L (u2 fun b => (c b).sc)) (L (u2 fun b => dscS (p b) (w1 b) (w2 b) (bb b) (c b))))))
      (minimumf (ratio3 (L (u3 fun b => (c b).z)) (L (u3 fun b => dz1S (p b) (w1 b) (w2 b) (bb b) (c b))))
        (minimumf (ratio2 (L (u2 fun b => (c b).zr)) (L (u2 fun b => dzrS (p b) (w1 b) (w2 b) (bb b) (c b))))
          (ratio2 (L (u2 fun b => (c b).zc)) (L (u2 fun b => dzcS (p b) (w1 b) (w2 b) (bb b) (c b)))))))
      = L (u3 fun b (_ : Fin 1) (_ : Fin 1) => (capE (p b) (w1 b) (w2 b) (bb b) (c b)).toReal) := by
  funext i
  obtain ⟨b, y, z, rfl⟩ : ∃ (b : Fin 16) (y z : Fin 1), i = ix3 b y z := ⟨i 0, i 1, i 2, eq_ix3 i⟩
  refine Eq.trans ?_ (capE_real (p b) (w1 b) (w2 b) (bb b) (c b))
  show min (cst (F := Ideal) (T3 16 1 1) 0x3F800000#32 (ix3 b y z)) (min (min (ratio3 (F := Ideal) _ _ (ix3 b y z))
    (min (ratio2 (F := Ideal) _ _ (ix3 b y z)) (ratio2 (F := Ideal) _ _ (ix3 b y z))))
    (min (ratio3 (F := Ideal) _ _ (ix3 b y z)) (min (ratio2 (F := Ideal) _ _ (ix3 b y z)) (ratio2 (F := Ideal) _ _ (ix3 b y z))))) = _
  rw [show cst (F := Ideal) (T3 16 1 1) 0x3F800000#32 (ix3 b y z) = (1 : EReal) from Emd.w1]
  refine eq_of_forall_le_iff fun q => ?_
  unfold capE
  simp only [le_min_iff, le_ratio3, le_ratio2, Finset.le_inf_iff, mem_univ, forall_const]
  by_cases hq : q ≤ 1
  · simp only [le_bnd _ _ q hq]
  · simp only [hq, false_and]

theorem L_max {s : Shape} (f g : s.Idx → ℝ) : maximumf (F := Ideal) (L f) (L g) = L fun i => max (f i) (g i) := by
  funext i; exact (EReal.coe_strictMono.monotone.map_max).symm
theorem L_min {s : Shape} (f g : s.Idx → ℝ) : minimumf (F := Ideal) (L f) (L g) = L fun i => min (f i) (g i) := by
  funext i; exact (EReal.coe_strictMono.monotone.map_min).symm
theorem moved_L {s : Shape} (x a dx : s.Idx → ℝ) : moved (F := Ideal) (L x) (L a) (L dx) = L fun i => mvS (x i) (a i) (dx i) := by
  unfold moved
  rw [L_mul, L_add, L_cst _ flr (w_real _ (by decide)), L_max]; rfl
theorem gOf_L {s : Shape} (x z rs rp : s.Idx → ℝ) (h : ∀ i, x i ≠ 0) :
    gOf (F := Ideal) (L x) (L z) (L rs) (L rp) = L fun i => gS (x i) (z i) (rs i) (rp i) := by
  unfold gOf
  rw [L_mul, L_sub, L_div _ _ h]; rfl
theorem dzOf_L {s : Shape} (x z rs dx : s.Idx → ℝ) (h : ∀ i, x i ≠ 0) :
    dzOf (F := Ideal) (L x) (L z) (L rs) (L dx) = L fun i => dzS (x i) (z i) (rs i) (dx i) := by
  unfold dzOf
  rw [L_zero, L_sub, L_mul, L_sub, L_div _ _ h]; rfl

section
variable {a b c : ℕ}
theorem moved3 (x al dx : Fin a → Fin b → Fin c → ℝ) : moved (F := Ideal) (L (u3 x)) (L (u3 al)) (L (u3 dx))
    = L (u3 fun i j k => mvS (x i j k) (al i j k) (dx i j k)) := moved_L _ _ _
theorem moved2 (x al dx : Fin a → Fin b → ℝ) : moved (F := Ideal) (L (u2 x)) (L (u2 al)) (L (u2 dx))
    = L (u2 fun i j => mvS (x i j) (al i j) (dx i j)) := moved_L _ _ _
theorem gOf3 (x z rs rp : Fin a → Fin b → Fin c → ℝ) (h : ∀ i j k, x i j k ≠ 0) :
    gOf (F := Ideal) (L (u3 x)) (L (u3 z)) (L (u3 rs)) (L (u3 rp))
      = L (u3 fun i j k => gS (x i j k) (z i j k) (rs i j k) (rp i j k)) := gOf_L _ _ _ _ fun i => h (i 0) (i 1) (i 2)
theorem gOf2 (x z rs rp : Fin a → Fin b → ℝ) (h : ∀ i j, x i j ≠ 0) :
    gOf (F := Ideal) (L (u2 x)) (L (u2 z)) (L (u2 rs)) (L (u2 rp))
      = L (u2 fun i j => gS (x i j) (z i j) (rs i j) (rp i j)) := gOf_L _ _ _ _ fun i => h (i 0) (i 1)
theorem dzOf3 (x z rs dx : Fin a → Fin b → Fin c → ℝ) (h : ∀ i j k, x i j k ≠ 0) :
    dzOf (F := Ideal) (L (u3 x)) (L (u3 z)) (L (u3 rs)) (L (u3 dx))
      = L (u3 fun i j k => dzS (x i j k) (z i j k) (rs i j k) (dx i j k)) := dzOf_L _ _ _ _ fun i => h (i 0) (i 1) (i 2)
theorem dzOf2 (x z rs dx : Fin a → Fin b → ℝ) (h : ∀ i j, x i j ≠ 0) :
    dzOf (F := Ideal) (L (u2 x)) (L (u2 z)) (L (u2 rs)) (L (u2 dx))
      = L (u2 fun i j => dzS (x i j) (z i j) (rs i j) (dx i j)) := dzOf_L _ _ _ _ fun i => h (i 0) (i 1)
end

/-- The kernel's step is each jet's step. -/
theorem step_L (inn : Ideal .f32) (hinn : inn = ((1 / 288 : ℝ) : EReal)) (p : Fin 16 → Mx) (w1 w2 : Fin 16 → Vx) (bb : Fin 16 → ℝ)
    (c : Fin 16 → Jet) (hc : ∀ b, (c b).Pos) :
    step (F := Ideal) inn (L (u2 w1)) (L (u2 w2)) (L (u3 p)) (L (u3 fun b (_ : Fin 1) (_ : Fin 1) => bb b)) (liftJ c)
      = liftJ fun b => stepS (p b) (w1 b) (w2 b) (bb b) (c b) := by
  have hs : ∀ b i j, (c b).s i j ≠ 0 := fun b i j => ((hc b).s i j).ne'
  have hsr : ∀ b i, (c b).sr i ≠ 0 := fun b i => ((hc b).sr i).ne'
  have hsc : ∀ b i, (c b).sc i ≠ 0 := fun b i => ((hc b).sc i).ne'
  have hbc : (broadcast (T3 16 1 1) inn : FVec Ideal (T3 16 1 1) .f32) = L (u3 fun _ _ _ => 1 / 288) := by
    funext i; exact hinn
  have hl2 : cst (F := Ideal) (T3 16 16 16) 0x38D1B717#32 = L (u3 fun _ _ _ => L2) := L_cst _ L2 (w_real _ (by decide))
  have hsg : cst (F := Ideal) (T3 16 1 1) 0x3DCCCCCD#32 = L (u3 fun _ _ _ => sig) := L_cst _ sig (w_real _ (by decide))
  have hsh : cst (F := Ideal) (T3 16 1 1) 0x3F7D70A4#32 = L (u3 fun _ _ _ => shr) := L_cst _ shr (w_real _ (by decide))
  have hz2 : cst (F := Ideal) (T2 16 16) 0#32 = L (u2 fun _ _ => 0) := L_zero
  unfold liftJ step
  simp only [hbc, hl2, hsg, hsh, hz2, L_add3, L_sub3, L_mul3, L_add2, L_sub2, L_mul2, sum12_L, sum1_L, inCol_L, inRow_L, in3_L,
    in2_L, sumR_L, sumC_L, gOf3 _ _ _ _ hs, gOf2 _ _ _ _ hsr, gOf2 _ _ _ _ hsc, L_div3 _ _ hs, L_div2 _ _ hsr, L_div2 _ _ hsc]
  have hn := newton_L (fun b i j => (c b).z i j / (c b).s i j) (fun b i => (c b).zr i / (c b).sr i)
    (fun b i => (c b).zc i / (c b).sc i) (fun b => r1S (p b) (w1 b) (w2 b) (c b)) (fun b => raS (bb b) (c b))
    (fun b i j => div_pos ((hc b).z i j) ((hc b).s i j)) (fun b i => div_pos ((hc b).zr i) ((hc b).sr i))
    (fun b i => div_pos ((hc b).zc i) ((hc b).sc i))
  generalize hN : newton (F := Ideal) _ _ _ _ _ = N
  obtain rfl : N = (L (u3 fun b => dX (p b) (w1 b) (w2 b) (bb b) (c b)),
    L (u3 fun b (_ : Fin 1) (_ : Fin 1) => dY (p b) (w1 b) (w2 b) (bb b) (c b))) := hN.symm.trans hn
  clear hN hn
  simp only [L_sub3, L_sub2, sumR_L, sumC_L, dzOf3 _ _ _ _ hs, dzOf2 _ _ _ _ hsr, dzOf2 _ _ _ _ hsc]
  have hcap := cap_L p w1 w2 bb c
  generalize hA : minimumf (F := Ideal) (cst (T3 16 1 1) 0x3F800000#32) _ = A
  obtain rfl : A = _ := hA.symm.trans hcap
  clear hA hcap
  simp only [L_mul3, in3_L, in2_L, L_add3, moved3, moved2]
  rfl

end Emd
-- ==== Proof.KernelVal.lean ====
/-
  The kernel's block over the reals: each jet's value is eighteen steps of `stepS` from `jet0`.
-/
module

public import proofs.«01_k».proof.Proof.BodyKI
public import proofs.«01_k».proof.Proof.KernelStep
public import Idealize.ShloMosaic.Lib.Pointwise

@[expose] public section

set_option maxRecDepth 100000

noncomputable section

namespace Cert.KernelIdeal

open Cert.KernelIdeal.Gen
open Idealize.ShloMosaic Idealize.ShloMosaic.TcCoe Idealize.ShloMosaic.Tactic
open Emd hiding w1 w2
open Finset

/-- The distance of two particles, from their coordinates. -/
def dst (e p e' p' : ℝ) : ℝ :=
  √((0 - (e - e') + wr 0x2B8CBCCC#32) * (0 - (e - e') + wr 0x2B8CBCCC#32) + (0 - (p - p') + wr 0x2B8CBCCC#32) * (0 - (p - p') + wr 0x2B8CBCCC#32))

/-- The named literal is what it names. -/
theorem inn_eq : Named.named (F := Ideal) κ "inv_nin" (φ := .f32) 0x3B638E39#32 = ((1 / 288 : ℝ) : EReal) := by
  show (κ "inv_nin").getD _ = _
  rfl

section
variable (e1 p1 w1 e2 p2 w2 : Fin 16 → Vx)

theorem P_L : k0_pay6134 (F := Ideal) (L (u2 e1)) (L (u2 p1)) (L (u2 e2)) (L (u2 p2))
    = L (u3 fun b i j => dst (e1 b i) (p1 b i) (e2 b j) (p2 b j)) := by
  funext i
  unfold k0_pay6134
  idx_vars i
  pointwise [L, u3, u2]
  rw [w_real 0x2B8CBCCC#32 (by decide), ← EReal.coe_zero]
  simp only [← EReal.coe_sub, ← EReal.coe_add, ← EReal.coe_mul]
  rw [sqrt_real _ (add_nonneg (mul_self_nonneg _) (mul_self_nonneg _))]
  rfl

theorem w1_L : k0_pay6132 (F := Ideal) (L (u2 w1)) = L (u2 w1) := by
  funext i; unfold k0_pay6132; idx_vars i; pointwise [L, u2]
theorem w2_L : k0_pay6133 (F := Ideal) (L (u2 w2)) = L (u2 w2) := by
  funext i; unfold k0_pay6133; idx_vars i; pointwise [L, u2]
theorem sw1_L : k0_pay6135 (F := Ideal) (L (u2 w1)) = L (u3 fun b (_ : Fin 1) (_ : Fin 1) => ∑ i, w1 b i) := by
  funext i; unfold k0_pay6135; rw [w1_L]; idx_vars i; pointwise [L, u3, u2]; simp only [coe_sum]
theorem sw2_L : k0_pay6136 (F := Ideal) (L (u2 w2)) = L (u3 fun b (_ : Fin 1) (_ : Fin 1) => ∑ i, w2 b i) := by
  funext i; unfold k0_pay6136; rw [w2_L]; idx_vars i; pointwise [L, u3, u2]; simp only [coe_sum]
theorem b_L : k0_pay6137 (F := Ideal) (L (u2 w1)) (L (u2 w2))
    = L (u3 fun b (_ : Fin 1) (_ : Fin 1) => min (∑ i, w1 b i) (∑ i, w2 b i)) := by
  unfold k0_pay6137; rw [sw1_L, sw2_L]; exact L_min _ _

theorem start_L : (k0_pay1 (F := Ideal), k0_pay2 (F := Ideal), k0_pay3 (F := Ideal), k0_pay4 (F := Ideal), k0_pay5 (F := Ideal),
    k0_pay6 (F := Ideal), k0_pay7 (F := Ideal), k0_pay8 (F := Ideal)) = liftJ fun _ => jet0 := by
  have h3 : (broadcast S16x16x16 (Scalar.ofBits (F := Ideal) .f32 0#32) : FVec Ideal S16x16x16 .f32) = L fun _ => 0 := L_zero
  have h3' : (broadcast S16x16x16 (Scalar.ofBits (F := Ideal) .f32 0x3F800000#32) : FVec Ideal S16x16x16 .f32) = L fun _ => 1 := L_one
  have h2' : (broadcast S16x16 (Scalar.ofBits (F := Ideal) .f32 0x3F800000#32) : FVec Ideal S16x16 .f32) = L fun _ => 1 := L_one
  have h1 : (broadcast S16x1x1 (Scalar.ofBits (F := Ideal) .f32 0#32) : FVec Ideal S16x1x1 .f32) = L fun _ => 0 := L_zero
  unfold k0_pay1 k0_pay2 k0_pay3 k0_pay4 k0_pay5 k0_pay6 k0_pay7 k0_pay8
  simp only [h3, h3', h2', h1]
  rfl

theorem foldl_steps {β : Type} (g : Carry Ideal → Carry Ideal) (it : ℕ → Fin 16 → Jet) (hg : ∀ k, g (liftJ (it k)) = liftJ (it (k + 1))) (l : List β) (k : ℕ) :
    l.foldl (fun c _ => g c) (liftJ (it k)) = liftJ (it (k + l.length)) := by
  induction l generalizing k with
  | nil => rfl
  | cons a l ih =>
    rw [List.foldl_cons, hg, ih, List.length_cons]
    congr 2; omega

theorem lastCarry_L : lastCarry (F := Ideal) (L (u2 e1)) (L (u2 p1)) (L (u2 w1)) (L (u2 e2)) (L (u2 p2)) (L (u2 w2))
    = liftJ fun b => iterS (fun i j => dst (e1 b i) (p1 b i) (e2 b j) (p2 b j)) (w1 b) (w2 b) (min (∑ i, w1 b i) (∑ i, w2 b i)) 18 := by
  unfold lastCarry
  rw [Scf.fold_eq, P_L, w1_L, w2_L, b_L, start_L]
  refine (foldl_steps _ (fun k b => iterS (fun i j => dst (e1 b i) (p1 b i) (e2 b j) (p2 b j)) (w1 b) (w2 b) (min (∑ i, w1 b i) (∑ i, w2 b i)) k)
    (fun k => step_L _ inn_eq _ _ _ _ _ fun b => iterS_pos _ _ _ _ _) (List.finRange k0_t1_loop.trips) 0).trans ?_
  rw [List.length_finRange]
  rfl

/-- A jet's entry of the block an iteration of the grid stores. -/
theorem outBlk_L (x y : Fin 1) (b : Fin 16) : outBlk (F := Ideal) (L (u2 e1)) (L (u2 p1)) (L (u2 w1)) (L (u2 e2)) (L (u2 p2)) (L (u2 w2)) (ix3 x y b)
    = ((emdS (fun i j => dst (e1 b i) (p1 b i) (e2 b j) (p2 b j)) (w1 b) (w2 b) : ℝ) : EReal) := by
  unfold outBlk
  rw [lastCarry_L, P_L, sw1_L, sw2_L]
  unfold k0_pay15 liftJ
  pointwise [L, u3]
  simp only [← EReal.coe_mul, coe_sum, ← EReal.coe_sub]
  show _ + max _ (-_) = _
  rw [← EReal.coe_neg, ← Monotone.map_max EReal.coe_strictMono.monotone, ← EReal.coe_add]
  rfl

end
end Cert.KernelIdeal
-- ==== Proof.KernelRun.lean ====
/-
  The kernel's result on real arguments: each jet pair's entry is `emdS` of its distances and weights.
-/
module

public import proofs.«01_k».proof.Proof.KernelVal
public import Idealize.ShloMosaic.Lib.Claim

@[expose] public section

set_option maxRecDepth 100000

noncomputable section

namespace Cert.KernelIdeal

open Cert.KernelIdeal.Gen
open Idealize.ShloMosaic Idealize.ShloMosaic.TcCoe Idealize.ShloMosaic.Tactic
open Emd hiding w1 w2
open Finset

/-- Jets: their particles' two coordinates and weight. -/
abbrev Jets : Type := Fin 32 → Fin 16 → Fin 3 → ℝ

/-- The jets' array. -/
def ofJets (j : Jets) : FVec Ideal S32x16x3 .f32 := fun i => ((j (i 0) (i 1) (i 2) : ℝ) : EReal)

/-- The result of one jet pair. -/
def pairS (j1 j2 : Jets) (b : Fin 32) : ℝ :=
  emdS (fun i j => dst (j1 b i 0) (j1 b i 1) (j2 b j 0) (j2 b j 1)) (fun i => j1 b i 2) (fun i => j2 b i 2)

variable (m : (ℓ : Loc nD τ sig) → Buf (Elt Ideal) ℓ) (ρ : Dev nD → PrngReg) (j1 j2 : Jets)
  (h1 : ∀ c : Dev nD, m ((c : Thread nD τ).loc main_arg0) = ofJets j1) (h2 : ∀ c : Dev nD, m ((c : Thread nD τ).loc main_arg1) = ofJets j2)

/-- One coordinate of every particle, as the host slices it. -/
def slc (o : ℕ) (h : S32x16x3.Slices ![0, 0, o] S32x16x1) (X : FVec Ideal S32x16x3 .f32) : FVec Ideal S32x16 .f32 :=
  shapeCast S32x16 (extractStridedSlice S32x16x1 ![0, 0, o] X h) shapeCasts_S32x16x1_S32x16

theorem slc_L (o : Fin 3) (h) (j : Jets) : slc o.val h (ofJets j) = L (u2 fun x y => j x y o) := by
  funext i
  unfold slc ofJets
  idx_vars i
  fin_cases o <;> pointwise [L, u2]

theorem V1 (c : Dev nD) : V m c main_v1 = slc 0 slices_S32x16x3_S32x16x1_0_0_0 (m ((c : Thread nD τ).loc main_arg0)) := by
  simp only [V, V0, hostOps0, List.flatten_cons, List.flatten_nil, List.append_nil]
  after_results
  rfl
theorem V3 (c : Dev nD) : V m c main_v3 = slc 1 slices_S32x16x3_S32x16x1_0_0_1 (m ((c : Thread nD τ).loc main_arg0)) := by
  simp only [V, V0, hostOps0, List.flatten_cons, List.flatten_nil, List.append_nil]
  after_results
  rfl
theorem V5 (c : Dev nD) : V m c main_v5 = slc 2 slices_S32x16x3_S32x16x1_0_0_2 (m ((c : Thread nD τ).loc main_arg0)) := by
  simp only [V, V0, hostOps0, List.flatten_cons, List.flatten_nil, List.append_nil]
  after_results
  rfl
theorem V7 (c : Dev nD) : V m c main_v7 = slc 0 slices_S32x16x3_S32x16x1_0_0_0 (m ((c : Thread nD τ).loc main_arg1)) := by
  simp only [V, V0, hostOps0, List.flatten_cons, List.flatten_nil, List.append_nil]
  after_results
  rfl
theorem V9 (c : Dev nD) : V m c main_v9 = slc 1 slices_S32x16x3_S32x16x1_0_0_1 (m ((c : Thread nD τ).loc main_arg1)) := by
  simp only [V, V0, hostOps0, List.flatten_cons, List.flatten_nil, List.append_nil]
  after_results
  rfl
theorem V11 (c : Dev nD) : V m c main_v11 = slc 2 slices_S32x16x3_S32x16x1_0_0_2 (m ((c : Thread nD τ).loc main_arg1)) := by
  simp only [V, V0, hostOps0, List.flatten_cons, List.flatten_nil, List.append_nil]
  after_results
  rfl

/-- A jet of a block. -/
def row (t : Fin 2) (x : Fin 16) : Fin 32 := ⟨16 * t.val + x.val, by omega⟩

theorem iblk0 (c : Dev nD) (t : Fin cfg0.N) (f : Fin 32 → Fin 16 → ℝ) (h : V m c main_v1 = L (u2 f)) : iblk m c 0 t = L (u2 fun x => f (row t x)) := by
  have hi : win0_0.index t 0 = t.val ∧ win0_0.index t 1 = 0 := by rcases fin_N0 t with rfl | rfl <;> decide
  funext i
  unfold iblk
  refine (congrFun h _).trans ?_
  unfold L u2
  refine congrArg Real.toEReal (congrArg₂ f (Fin.ext ?_) (Fin.ext ?_))
  · show win0_0.index t 0 * 16 + 1 * (i 0).val = 16 * t.val + (i 0).val; rw [hi.1]; omega
  · show win0_0.index t 1 * 16 + 1 * (i 1).val = (i 1).val; rw [hi.2]; omega
theorem iblk1 (c : Dev nD) (t : Fin cfg0.N) (f : Fin 32 → Fin 16 → ℝ) (h : V m c main_v3 = L (u2 f)) : iblk m c 1 t = L (u2 fun x => f (row t x)) := by
  have hi : win0_1.index t 0 = t.val ∧ win0_1.index t 1 = 0 := by rcases fin_N0 t with rfl | rfl <;> decide
  funext i
  unfold iblk
  refine (congrFun h _).trans ?_
  unfold L u2
  refine congrArg Real.toEReal (congrArg₂ f (Fin.ext ?_) (Fin.ext ?_))
  · show win0_1.index t 0 * 16 + 1 * (i 0).val = 16 * t.val + (i 0).val; rw [hi.1]; omega
  · show win0_1.index t 1 * 16 + 1 * (i 1).val = (i 1).val; rw [hi.2]; omega
theorem iblk2 (c : Dev nD) (t : Fin cfg0.N) (f : Fin 32 → Fin 16 → ℝ) (h : V m c main_v5 = L (u2 f)) : iblk m c 2 t = L (u2 fun x => f (row t x)) := by
  have hi : win0_2.index t 0 = t.val ∧ win0_2.index t 1 = 0 := by rcases fin_N0 t with rfl | rfl <;> decide
  funext i
  unfold iblk
  refine (congrFun h _).trans ?_
  unfold L u2
  refine congrArg Real.toEReal (congrArg₂ f (Fin.ext ?_) (Fin.ext ?_))
  · show win0_2.index t 0 * 16 + 1 * (i 0).val = 16 * t.val + (i 0).val; rw [hi.1]; omega
  · show win0_2.index t 1 * 16 + 1 * (i 1).val = (i 1).val; rw [hi.2]; omega
theorem iblk3 (c : Dev nD) (t : Fin cfg0.N) (f : Fin 32 → Fin 16 → ℝ) (h : V m c main_v7 = L (u2 f)) : iblk m c 3 t = L (u2 fun x => f (row t x)) := by
  have hi : win0_3.index t 0 = t.val ∧ win0_3.index t 1 = 0 := by rcases fin_N0 t with rfl | rfl <;> decide
  funext i
  unfold iblk
  refine (congrFun h _).trans ?_
  unfold L u2
  refine congrArg Real.toEReal (congrArg₂ f (Fin.ext ?_) (Fin.ext ?_))
  · show win0_3.index t 0 * 16 + 1 * (i 0).val = 16 * t.val + (i 0).val; rw [hi.1]; omega
  · show win0_3.index t 1 * 16 + 1 * (i 1).val = (i 1).val; rw [hi.2]; omega
theorem iblk4 (c : Dev nD) (t : Fin cfg0.N) (f : Fin 32 → Fin 16 → ℝ) (h : V m c main_v9 = L (u2 f)) : iblk m c 4 t = L (u2 fun x => f (row t x)) := by
  have hi : win0_4.index t 0 = t.val ∧ win0_4.index t 1 = 0 := by rcases fin_N0 t with rfl | rfl <;> decide
  funext i
  unfold iblk
  refine (congrFun h _).trans ?_
  unfold L u2
  refine congrArg Real.toEReal (congrArg₂ f (Fin.ext ?_) (Fin.ext ?_))
  · show win0_4.index t 0 * 16 + 1 * (i 0).val = 16 * t.val + (i 0).val; rw [hi.1]; omega
  · show win0_4.index t 1 * 16 + 1 * (i 1).val = (i 1).val; rw [hi.2]; omega
theorem iblk5 (c : Dev nD) (t : Fin cfg0.N) (f : Fin 32 → Fin 16 → ℝ) (h : V m c main_v11 = L (u2 f)) : iblk m c 5 t = L (u2 fun x => f (row t x)) := by
  have hi : win0_5.index t 0 = t.val ∧ win0_5.index t 1 = 0 := by rcases fin_N0 t with rfl | rfl <;> decide
  funext i
  unfold iblk
  refine (congrFun h _).trans ?_
  unfold L u2
  refine congrArg Real.toEReal (congrArg₂ f (Fin.ext ?_) (Fin.ext ?_))
  · show win0_5.index t 0 * 16 + 1 * (i 0).val = 16 * t.val + (i 0).val; rw [hi.1]; omega
  · show win0_5.index t 1 * 16 + 1 * (i 1).val = (i 1).val; rw [hi.2]; omega

include h1 h2 in
theorem arr_val (c : Dev nD) : (dats m 0 c).arrAt 6 cfg0.N = fun i => ((pairS j1 j2 (row (i 0) (i 2)) : ℝ) : EReal) := by
  refine (dats m 0 c).arrAt_eq_of_covers 6 _ (by decide +kernel) fun t hf y => ?_
  blk_simp
  rw [after0_6]
  unfold outAt
  rw [iblk0 m c t _ ((V1 m c).trans ((congrArg _ (h1 c)).trans (slc_L 0 _ j1)))]
  rw [iblk1 m c t _ ((V3 m c).trans ((congrArg _ (h1 c)).trans (slc_L 1 _ j1)))]
  rw [iblk2 m c t _ ((V5 m c).trans ((congrArg _ (h1 c)).trans (slc_L 2 _ j1)))]
  rw [iblk3 m c t _ ((V7 m c).trans ((congrArg _ (h2 c)).trans (slc_L 0 _ j2)))]
  rw [iblk4 m c t _ ((V9 m c).trans ((congrArg _ (h2 c)).trans (slc_L 1 _ j2)))]
  rw [iblk5 m c t _ ((V11 m c).trans ((congrArg _ (h2 c)).trans (slc_L 2 _ j2)))]
  have hi : win0_6.index t 0 = t.val ∧ win0_6.index t 1 = 0 ∧ win0_6.index t 2 = 0 := by rcases fin_N0 t with rfl | rfl <;> decide
  obtain ⟨x, z, b, rfl⟩ : ∃ (x z : Fin 1) (b : Fin 16), y = ix3 x z b := ⟨y 0, y 1, y 2, eq_ix3 y⟩
  refine (outBlk_L _ _ _ _ _ _ x z b).trans ?_
  show ((pairS j1 j2 (row t b) : ℝ) : EReal) = _
  refine congrArg Real.toEReal (congrArg (pairS j1 j2) (Fin.ext ?_))
  show 16 * t.val + b.val = 16 * (win0_6.index t 0 * 1 + 1 * x.val) + (win0_6.index t 2 * 16 + 1 * b.val)
  rw [hi.1, hi.2.2]
  omega

include h1 h2 in
theorem run_val : θ_run defs (onTc (τ := τ) (main (F := Ideal))) ⟨m, fun _ => 0, ρ⟩ (fun r => ∀ c : Dev nD,
      r.2.mem ((c.tc : Thread nD τ).loc main_v13) = (fun i => ((pairS j1 j2 (i 0) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c)⟩) (run_main m ρ)
  refine ((h.1 c).2 main_v13 (Pipeline.mem_restRefs_of main_v13 (by decide) (by decide))).trans ?_
  unfold Pipeline.afterTail₀
  simp only [hostOps1, List.flatten_cons, List.flatten_nil, List.append_nil]
  after_results
  have hw := (Pipeline.withArrays_arr (cfgs 0).spec launch0.win.arr_inj c (V0 m c) (fun w => (dats m 0 c).arrAt w (cfgs 0).N) 6).trans (arr_val m j1 j2 h1 h2 c)
  funext i
  idx_vars i
  refine (shapeCast_apply _ _ _ (ix3 (⟨i0.val / 16, by omega⟩ : Fin 2) (0 : Fin 1) (⟨i0.val % 16, by omega⟩ : Fin 16)) ?_).trans ((congrFun hw _).trans ?_)
  · refine (Shape.rowMajor_val_three _).trans (Eq.trans ?_ (Shape.rowMajor_val_one _).symm)
    show (i0.val / 16 * 1 + 0) * 16 + i0.val % 16 = i0.val
    omega
  · refine congrArg Real.toEReal (congrArg (pairS j1 j2) (Fin.ext ?_))
    show 16 * (i0.val / 16) + i0.val % 16 = i0.val
    omega

end Cert.KernelIdeal
-- ==== Proof.BodyRI.lean ====
/-
  The kernel's body as six loads, one pure value and one store: the eighteen trips are the fold of `Emd.step`.
-/
module

public import Idealize.ShloMosaic.Lib.Tactic
public import proofs.«01_k».proof.Proof.Gen.ReferenceIdeal.Skeleton
public import proofs.«01_k».proof.Proof.Gen.ReferenceIdeal.Frame
public import Idealize.ShloMosaic.Lib.Pipeline.ValueKit

@[expose] public section

set_option maxRecDepth 100000

noncomputable section

namespace Cert.ReferenceIdeal

open Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The matrix left and the factor's columns found, after the elimination's trips. -/
def factorV (A : FVec F S32x256x256 .f32) : FVec F S32x256x256 .f32 × FVec F S32x256x256 .f32 :=
  Scf.fold (n := k0_t2_loop.trips) (fun k c => (k0_pay8 (iota .tc S1x256x1 32 [1] iota_S1x256x1_d1_w32) k c.1, k0_pay9 (iota .tc S1x256x1 32 [1] iota_S1x256x1_d1_w32) k c.1 c.2))
    (A, k0_pay6 (F := F))

/-- The two triangular solves at the residual. -/
def solve1 (C : FVec F S32x256x256 .f32) (r : FVec F S32x256 .f32) : FVec F S32x256 .f32 :=
  Scf.fold (n := k0_t4_loop.trips) (fun k c => k0_pay11 C k c) (Scf.fold (n := k0_t3_loop.trips) (fun k c => k0_pay10 C k c) r)

/-- The two triangular solves at ones. -/
def solve2 (C : FVec F S32x256x256 .f32) : FVec F S32x256 .f32 :=
  Scf.fold (n := k0_t6_loop.trips) (fun k c => k0_pay14 C k c) (Scf.fold (n := k0_t5_loop.trips) (fun k c => k0_pay13 C k c) (k0_pay12 (F := F)))

/-- What the outer loop carries: `x`, the slacks, the multipliers, the equality's multiplier. -/
abbrev Carry (F : FTy → Type) : Type := FVec F S32x256 .f32 × FVec F S32x288 .f32 × FVec F S32x288 .f32 × FVec F S32x1 .f32

/-- One trip of the outer loop, as a pure value of what it carries. -/
def refStep (v0 : Vec F S32x256 .f32) (v2 v4 : Vec F S32x16 .f32) (v11 : Vec F S288x256 .f32) (v13 : Vec F S256x288 .f32)
    (c : Carry F) : Carry F :=
  let x := c.1; let s := c.2.1; let z := c.2.2.1; let y := c.2.2.2
  let rp := k0_pay1 (k0_pay30 v13) (k0_pay31 v2 v4) x s
  let ra := k0_pay2 (k0_pay28 v2 v4) x
  let rs := k0_pay3 s z
  let C := (factorV (k0_pay4 (k0_pay29 v11) (k0_pay32 (F := F)) s z)).2
  let u := solve1 C (k0_pay5 (k0_pay23 v0) (k0_pay29 v11) (k0_pay30 v13) (k0_pay31 v2 v4) x s z y)
  let v := solve2 C
  let dx := k0_pay16 ra u v
  let nrp := k0_pay17 (F := F) rp
  let Gdx := k0_pay18 (k0_pay30 v13) ra u v
  let al := k0_pay21 s z rs nrp Gdx
  (k0_pay37 x (k0_pay22 s z rs dx nrp Gdx), k0_pay38 s (k0_pay19 nrp Gdx) al, k0_pay39 z (k0_pay20 s z rs nrp Gdx) al, k0_pay40 y (k0_pay15 ra u v) al)

/-- The carry after all trips of the outer loop. -/
def lastCarry (v0 : Vec F S32x256 .f32) (v2 v4 : Vec F S32x16 .f32) (v11 : Vec F S288x256 .f32) (v13 : Vec F S256x288 .f32) : Carry F :=
  Scf.fold (n := k0_t1_loop.trips) (fun _ c => refStep v0 v2 v4 v11 v13 c)
    (k0_pay33 (F := F), k0_pay34 (F := F), k0_pay35 (F := F), k0_pay36 (F := F))

/-- The value stored, from the five arrays loaded. -/
def outBlk (v0 : Vec F S32x256 .f32) (v2 v4 : Vec F S32x16 .f32) (v11 : Vec F S288x256 .f32) (v13 : Vec F S256x288 .f32) : Vec F S32x1 .f32 :=
  k0_pay41 v0 v2 v4 (lastCarry v0 v2 v4 v11 v13).1

theorem loop_pure {σ α : Type} {w : Nat} (l : Scf.Loop w) (hok : l.OK) (init : σ) (body : Fin l.trips → σ → Prog (TpuEff nD τ sig (Elt F) Λ₀ .tc) σ)
    (g : Fin l.trips → σ → σ) (hg : ∀ k acc, body k acc = .ret (g k acc)) (k : σ → Prog (TpuEff nD τ sig (Elt F) Λ₀ .tc) α) :
    (Scf.Loop.for l hok init body >>= k) = k (Scf.fold (n := l.trips) g init) :=
  Scf.for_pure_bind _ _ _ _ _ _ _ hg k

theorem part2_pure (arg0 : Memref sig .tc .vmem S32x256 .f32) (harg0 : arg0.IsWhole) (arg1 : Memref sig .tc .vmem S32x16 .f32) (harg1 : arg1.IsWhole) (arg2 : Memref sig .tc .vmem S32x16 .f32) (harg2 : arg2.IsWhole) (arg3 : Memref sig .tc .vmem S288x256 .f32) (harg3 : arg3.IsWhole) (arg4 : Memref sig .tc .vmem S256x288 .f32) (harg4 : arg4.IsWhole) (arg5 : Memref sig .tc .vmem S32x1 .f32) (harg5 : arg5.IsWhole) (v14 v50 v53 v77 v82) :
    k0_part2 (F := F) arg0 harg0 arg1 harg1 arg2 harg2 arg3 harg3 arg4 harg4 arg5 harg5 v14 v50 v53 v77 v82 (iota .tc S1x256x1 32 [1] iota_S1x256x1_d1_w32)
      = .ret ⟨k0_pay15 v53 (solve1 (factorV v77).2 v82) (solve2 (factorV v77).2), k0_pay16 v53 (solve1 (factorV v77).2 v82) (solve2 (factorV v77).2),
          k0_pay17 v50, k0_pay18 v14 v53 (solve1 (factorV v77).2 v82) (solve2 (factorV v77).2)⟩ := by
  rw [k0_part2_eq_skeleton]
  unfold k0_part2_skel
  refine (loop_pure (F := F) _ _ _ _ (fun k c => (k0_pay8 (iota .tc S1x256x1 32 [1] iota_S1x256x1_d1_w32) k c.1, k0_pay9 (iota .tc S1x256x1 32 [1] iota_S1x256x1_d1_w32) k c.1 c.2)) (fun _ _ => rfl) _).trans ?_
  refine (loop_pure (F := F) _ _ _ _ (fun k c => k0_pay10 (factorV (F := F) v77).2 k c) (fun _ _ => rfl) _).trans ?_
  refine (loop_pure (F := F) _ _ _ _ (fun k c => k0_pay11 (factorV (F := F) v77).2 k c) (fun _ _ => rfl) _).trans ?_
  refine (loop_pure (F := F) _ _ _ _ (fun k c => k0_pay13 (factorV (F := F) v77).2 k c) (fun _ _ => rfl) _).trans ?_
  refine (loop_pure (F := F) _ _ _ _ (fun k c => k0_pay14 (factorV (F := F) v77).2 k c) (fun _ _ => rfl) _).trans ?_
  rfl

theorem body_pure (arg0 : Memref sig .tc .vmem S32x256 .f32) (harg0 : arg0.IsWhole) (arg1 : Memref sig .tc .vmem S32x16 .f32) (harg1 : arg1.IsWhole) (arg2 : Memref sig .tc .vmem S32x16 .f32) (harg2 : arg2.IsWhole) (arg3 : Memref sig .tc .vmem S288x256 .f32) (harg3 : arg3.IsWhole) (arg4 : Memref sig .tc .vmem S256x288 .f32) (harg4 : arg4.IsWhole) (arg5 : Memref sig .tc .vmem S32x1 .f32) (harg5 : arg5.IsWhole) (v0 v2 v4 v11 v13) (k c) :
    k0_t1_body (F := F) arg0 harg0 arg1 harg1 arg2 harg2 arg3 harg3 arg4 harg4 arg5 harg5 v0 v2 v4 v11 v13 k c = .ret (refStep v0 v2 v4 v11 v13 c) := by
  unfold k0_t1_body
  rw [k0_part1_eq_skeleton, k0_part3_eq_skeleton]
  refine (congrArg (fun p => p >>= _) (part2_pure arg0 harg0 arg1 harg1 arg2 harg2 arg3 harg3 arg4 harg4 arg5 harg5 _ _ _ _ _)).trans ?_
  rfl

theorem kernel_eq : cc0_solve_ref (F := F) = fun arg0 harg0 arg1 harg1 arg2 harg2 arg3 harg3 arg4 harg4 arg5 harg5 => (do
  let v0 : Vec F S32x256 .f32 ← Prog.lift (.load arg0 (Rect.unit (s := S32x256) ![0, 0] S32x256.size inb_S32x256_S32x256_0_0).toLoadRect (View.loadsAt_vmem h_S32x256))
  let v2 : Vec F S32x16 .f32 ← Prog.lift (.load arg1 (Rect.unit (s := S32x16) ![0, 0] S32x16.size inb_S32x16_S32x16_0_0).toLoadRect (View.loadsAt_vmem h_S32x16))
  let v4 : Vec F S32x16 .f32 ← Prog.lift (.load arg2 (Rect.unit (s := S32x16) ![0, 0] S32x16.size inb_S32x16_S32x16_0_0).toLoadRect (View.loadsAt_vmem h_S32x16))
  let v11 : Vec F S288x256 .f32 ← Prog.lift (.load arg3 (Rect.unit (s := S288x256) ![0, 0] S288x256.size inb_S288x256_S288x256_0_0).toLoadRect (View.loadsAt_vmem h_S288x256))
  let v13 : Vec F S256x288 .f32 ← Prog.lift (.load arg4 (Rect.unit (s := S256x288) ![0, 0] S256x288.size inb_S256x288_S256x288_0_0).toLoadRect (View.loadsAt_vmem h_S256x288))
  let v35 : Vec F S32x1 .f32 ← Prog.lift (.load arg5 (Rect.unit (s := S32x1) ![0, 0] S32x1.size inb_S32x1_S32x1_0_0).toLoadRect (View.loadsAt_vmem h_S32x1))
  Prog.lift (.store arg5 (Rect.unit (s := S32x1) ![0, 0] S32x1.size inb_S32x1_S32x1_0_0) (outBlk v0 v2 v4 v11 v13) Finset.univ (View.stores_vmem_bits_univ h_S32x1 rfl) (.inl rfl))
  .ret ⟨⟩) := by
  rw [cc0_solve_ref_eq_skeleton]
  funext arg0 harg0 arg1 harg1 arg2 harg2 arg3 harg3 arg4 harg4 arg5 harg5
  unfold cc0_solve_ref_skel
  rw [k0_part4_eq_skeleton]
  unfold k0_part4_skel
  simp only [loop_pure k0_t1_loop k0_t1_ok _ _ _ (body_pure arg0 harg0 arg1 harg1 arg2 harg2 arg3 harg3 arg4 harg4 arg5 harg5 _ _ _ _ _)]
  rfl

theorem whole_load {n k : ℕ} (M : Memref sig .tc .vmem ⟨2, ![n, k]⟩ .f32) (h : M.IsWhole) (x : Vec F ⟨2, ![n, k]⟩ .f32) (inb) :
    View.readAt (Elt F) M.view (Rect.unit (s := ⟨2, ![n, k]⟩) ![0, 0] (Shape.size ⟨2, ![n, k]⟩) inb).toLoadRect (h.unread x) = x :=
  (View.readAt_eq_ld _ _ _).trans ((congrArg (fun y => View.ld y _) (h.read_unread x)).trans (View.ld_unit_lit' _ _ (fun a => by fin_cases a <;> rfl)))

/-- The body from whole staging buffers: the inputs are kept, the result block is `outBlk` of them. -/
theorem kernelRun (c : Dev nD) (M1 : Memref sig .tc .vmem S32x256 .f32) (h1 : M1.IsWhole) (M2 : Memref sig .tc .vmem S32x16 .f32) (h2 : M2.IsWhole) (M3 : Memref sig .tc .vmem S32x16 .f32) (h3 : M3.IsWhole) (M4 : Memref sig .tc .vmem S288x256 .f32) (h4 : M4.IsWhole) (M5 : Memref sig .tc .vmem S256x288 .f32) (h5 : M5.IsWhole) (M6 : Memref sig .tc .vmem S32x1 .f32) (h6 : M6.IsWhole)
    (x1 : Vec F S32x256 .f32) (x2 : Vec F S32x16 .f32) (x3 : Vec F S32x16 .f32) (x4 : Vec F S288x256 .f32) (x5 : Vec F S256x288 .f32) (E : Set ℕ) (K : PUnit → sProp (MT nD τ sig Unit (Elt F) ℕ (UR sig nD τ) ℕ)) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ (∃ d, owns (c : Thread nD τ) M6 fullShare d)
        ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare (outBlk x1 x2 x3 x4 x5)) -∗ K ⟨⟩))
      ⊢ wp frame (wpE (defs₀ (F := F)) Variants.none c none) E (cc0_solve_ref M1 h1 M2 h2 M3 h3 M4 h4 M5 h5 M6 h6) K := by
  rw [kernel_eq]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := h1.eq_unread hf1; obtain rfl := h2.eq_unread hf2; obtain rfl := h3.eq_unread hf3
  obtain rfl := h4.eq_unread hf4; obtain rfl := h5.eq_unread hf5
  sl_exec!
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr; swap; · iexact H6
  ipureintro
  unfold kernelRun.sl.H6_1
  refine (View.read_writes_junk_eq_canon _ _).trans ?_
  refine (View.canon_cons_unit_lit' _ _ _ (by decide)).trans ?_
  rw [whole_load M1 h1, whole_load M2 h2, whole_load M3 h3, whole_load M4 h4, whole_load M5 h5]

variable (m : (ℓ : Loc nD τ sig) → Buf (Elt F) ℓ) (ρ : Dev nD → PrngReg)

/-- The block stored at point `t`, from the input blocks there. -/
def outAt (c : Dev nD) (t : Fin cfg0.N) : Vec F S32x1 .f32 :=
  outBlk (iblk m c 0 t) (iblk m c 1 t) (iblk m c 2 t) (iblk m c 3 t) (iblk m c 4 t)

/-- What every window's staging buffer holds after the body: inputs their blocks, the result `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body at every point of the grid, from the staging buffers as the pipeline leaves them. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5]
  unfold outAt
  iintro ⟨HΦ, Ho, ⟨%d0, H0⟩, ⟨%d1, H1⟩, ⟨%d2, H2⟩, ⟨%d3, H3⟩, ⟨%d4, H4⟩, ⟨%d5, H5⟩⟩
  iapply (kernelRun c _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- The whole program runs to the end, its arrays at what the points' bodies leave, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

/-- The program leaves its two arguments as they were, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.ReferenceIdeal
-- ==== Proof.RefSolve.lean ====
/-
  The reference's factorization and its two triangular solves, over the reals.
-/
module

public import proofs.«01_k».proof.Proof.BodyRI
public import proofs.«01_k».proof.Proof.Chol
public import proofs.«01_k».proof.Proof.Layer
public import Idealize.ShloMosaic.Lib.Pointwise

@[expose] public section

set_option maxRecDepth 100000

noncomputable section

namespace Cert.ReferenceIdeal

open Cert.ReferenceIdeal.Gen
open Idealize.ShloMosaic Idealize.ShloMosaic.TcCoe Idealize.ShloMosaic.Tactic
open Emd hiding w1 w2
open Finset

theorem iv_eq (k : ℕ) : Scf.iv 0#32 1#32 k = BitVec.ofNat 32 k := by
  unfold Scf.iv
  rw [BitVec.mul_one, BitVec.zero_add]

theorem word_eq (x k : ℕ) (hx : x < 256) (hk : k < 256) (a b : EReal) :
    Scalar.select (IntOp.cmpi .eq (BitVec.ofNat 32 x) (BitVec.ofNat 32 k)) a b = if x = k then a else b := by
  have h : IntOp.cmpi .eq (BitVec.ofNat 32 x) (BitVec.ofNat 32 k) = 1#1 ↔ x = k := by
    show BitVec.ofBool (BitVec.ofNat 32 x == BitVec.ofNat 32 k) = 1#1 ↔ x = k
    by_cases e : x = k
    · subst e; simp only [beq_self_eq_true, iff_true]; rfl
    · have : BitVec.ofNat 32 x ≠ BitVec.ofNat 32 k := fun h => e (by
        have := congrArg BitVec.toNat h
        simp only [BitVec.toNat_ofNat] at this
        omega)
      rw [beq_eq_false_iff_ne.2 this]
      simp [e]
  exact if_congr h rfl rfl

/-- A choice at one place of an axis. -/
theorem sel (x k : Fin 256) (a b : EReal) :
    Scalar.select (IntOp.cmpi .eq (BitVec.ofNat 32 x.val) (Scf.iv 0#32 1#32 k.val)) a b = if x = k then a else b := by
  rw [iv_eq, word_eq _ _ x.isLt k.isLt]
  exact if_congr Fin.ext_iff.symm rfl rfl

/-- A choice at one place of an axis, counted from its end. -/
theorem selR (x k : Fin 256) (a b : EReal) :
    Scalar.select (IntOp.cmpi .eq (BitVec.ofNat 32 x.val) (Scalar.subi 255#32 (Scf.iv 0#32 1#32 k.val))) a b
      = if x = k.rev then a else b := by
  have : Scalar.subi 255#32 (Scf.iv 0#32 1#32 k.val) = BitVec.ofNat 32 (255 - k.val) := by
    rw [iv_eq]
    have := k.isLt
    apply BitVec.eq_of_toNat_eq
    show (255#32 - BitVec.ofNat 32 k.val).toNat = _
    simp only [BitVec.toNat_sub, BitVec.toNat_ofNat]
    omega
  rw [this, word_eq _ _ x.isLt (by omega)]
  refine if_congr ?_ rfl rfl
  rw [Fin.ext_iff, Fin.val_rev]
  omega

theorem pay7_L (A : Fin 32 → Fin 256 → Fin 256 → ℝ) (k : Fin 256) (h : ∀ b, 0 < A b k k) :
    k0_pay7 (F := Ideal) (iota .tc S1x256x1 32 [1] iota_S1x256x1_d1_w32) k (L (u3 A)) = L (u3 fun b i (_ : Fin 1) => A b i k / √(A b k k)) := by
  funext i
  unfold k0_pay7
  idx_vars i
  pointwise [L, u3]
  simp only [sel, sum_ite_eq', mem_univ, if_true]
  rw [sqrt_real _ (h i0).le, div_real _ _ (Real.sqrt_pos.2 (h i0)).ne']

theorem pay8_L (A : Fin 32 → Fin 256 → Fin 256 → ℝ) (k : Fin 256) (h : ∀ b, 0 < A b k k) :
    k0_pay8 (F := Ideal) (iota .tc S1x256x1 32 [1] iota_S1x256x1_d1_w32) k (L (u3 A))
      = L (u3 fun b i j => A b i j - (A b i k / √(A b k k)) * (A b j k / √(A b k k))) := by
  funext i
  unfold k0_pay8
  rw [pay7_L A k h]
  idx_vars i
  pointwise [L, u3]
  push_cast
  rfl

theorem pay9_L (A C : Fin 32 → Fin 256 → Fin 256 → ℝ) (k : Fin 256) (h : ∀ b, 0 < A b k k) :
    k0_pay9 (F := Ideal) (iota .tc S1x256x1 32 [1] iota_S1x256x1_d1_w32) k (L (u3 A)) (L (u3 C))
      = L (u3 fun b i j => if j = k then A b i k / √(A b k k) else C b i j) := by
  funext i
  unfold k0_pay9
  rw [pay7_L A k h]
  idx_vars i
  pointwise [L, u3]
  simp only [sel]
  split_ifs <;> rfl

theorem pay10_L (C : Fin 32 → Fin 256 → Fin 256 → ℝ) (t : Fin 32 → Fin 256 → ℝ) (k : Fin 256) (h : ∀ b, C b k k ≠ 0) :
    k0_pay10 (F := Ideal) (L (u3 C)) k (L (u2 t))
      = L (u2 fun b i => if i = k then t b k / C b k k else t b i - C b i k * (t b k / C b k k)) := by
  funext i
  unfold k0_pay10
  idx_vars i
  pointwise [L, u3, u2]
  simp only [sel, sum_ite_eq', mem_univ, if_true]
  rw [div_real _ _ (h i0)]
  split_ifs <;> push_cast <;> rfl

theorem pay11_L (C : Fin 32 → Fin 256 → Fin 256 → ℝ) (t : Fin 32 → Fin 256 → ℝ) (k : Fin 256) (h : ∀ b, C b k.rev k.rev ≠ 0) :
    k0_pay11 (F := Ideal) (L (u3 C)) k (L (u2 t))
      = L (u2 fun b i => if i = k.rev then t b k.rev / C b k.rev k.rev else t b i - C b k.rev i * (t b k.rev / C b k.rev k.rev)) := by
  funext i
  unfold k0_pay11
  idx_vars i
  pointwise [L, u3, u2]
  simp only [selR, sum_ite_eq', mem_univ, if_true]
  rw [div_real _ _ (h i0)]
  split_ifs <;> push_cast <;> rfl

theorem solve2_eq (C : FVec Ideal S32x256x256 .f32) : solve2 C = solve1 C (k0_pay12 (F := Ideal)) := rfl

/-- What holds before the first trip and is carried by every trip holds after the last. -/
theorem fold_inv {σ : Type} {n : ℕ} (g : Fin n → σ → σ) (P : ℕ → σ → Prop) (init : σ) (h0 : P 0 init)
    (hs : ∀ (k : Fin n) (c : σ), P k.val c → P (k.val + 1) (g k c)) : P n (Scf.fold g init) := by
  have main : ∀ (l : List (Fin n)) (j : ℕ) (c : σ), l.map Fin.val = List.range' j l.length → P j c →
      P (j + l.length) (l.foldl (fun acc k => g k acc) c) := by
    intro l
    induction l with
    | nil => intro j c _ h; exact h
    | cons a l ih =>
      intro j c hl h
      rw [List.map_cons, List.length_cons, List.range'_succ, List.cons.injEq] at hl
      rw [List.foldl_cons, List.length_cons]
      have := ih (j + 1) (g a c) hl.2 (hl.1 ▸ hs a c (hl.1.symm ▸ h))
      rwa [show j + (l.length + 1) = j + 1 + l.length by omega]
  rw [Scf.fold_eq]
  have := main (List.finRange n) 0 init (by rw [List.map_coe_finRange_eq_range, List.length_finRange, List.range_eq_range']) h0
  rwa [List.length_finRange, Nat.zero_add] at this

/-- A matrix of the reference's size. -/
abbrev Mat : Type := Fin 256 → Fin 256 → ℝ

/-- The matrix left after `j` columns. -/
def rem (H : Mat) : ℕ → Mat
  | 0 => H
  | j + 1 => fun i k => if h : j < 256 then
      rem H j i k - (rem H j i ⟨j, h⟩ / √(rem H j ⟨j, h⟩ ⟨j, h⟩)) * (rem H j k ⟨j, h⟩ / √(rem H j ⟨j, h⟩ ⟨j, h⟩)) else 0

/-- The factor found. -/
def fcol (H : Mat) : Mat := fun i k => rem H k i k / √(rem H k k k)

/-- The forward solve after `j` trips. -/
def fw (H : Mat) (r : Fin 256 → ℝ) : ℕ → Fin 256 → ℝ
  | 0 => r
  | j + 1 => fun i => if h : j < 256 then
      (if i = ⟨j, h⟩ then fw H r j ⟨j, h⟩ / fcol H ⟨j, h⟩ ⟨j, h⟩
        else fw H r j i - fcol H i ⟨j, h⟩ * (fw H r j ⟨j, h⟩ / fcol H ⟨j, h⟩ ⟨j, h⟩)) else 0

/-- The backward solve after `j` trips. -/
def bw (H : Mat) (r : Fin 256 → ℝ) : ℕ → Fin 256 → ℝ
  | 0 => fw H r 256
  | j + 1 => fun i => if h : j < 256 then
      (if i = (⟨j, h⟩ : Fin 256).rev then bw H r j (⟨j, h⟩ : Fin 256).rev / fcol H (⟨j, h⟩ : Fin 256).rev (⟨j, h⟩ : Fin 256).rev
        else bw H r j i - fcol H (⟨j, h⟩ : Fin 256).rev i *
          (bw H r j (⟨j, h⟩ : Fin 256).rev / fcol H (⟨j, h⟩ : Fin 256).rev (⟨j, h⟩ : Fin 256).rev)) else 0

theorem rem_succ (H : Mat) (j : Fin 256) (i k : Fin 256) : rem H (j + 1) i k
    = rem H j i k - (rem H j i j / √(rem H j j j)) * (rem H j k j / √(rem H j j j)) := dif_pos j.isLt
theorem fw_succ (H : Mat) (r : Fin 256 → ℝ) (j i : Fin 256) : fw H r (j + 1) i
    = if i = j then fw H r j j / fcol H j j else fw H r j i - fcol H i j * (fw H r j j / fcol H j j) := dif_pos j.isLt
theorem bw_succ (H : Mat) (r : Fin 256 → ℝ) (j i : Fin 256) : bw H r (j + 1) i
    = if i = j.rev then bw H r j j.rev / fcol H j.rev j.rev
      else bw H r j i - fcol H j.rev i * (bw H r j j.rev / fcol H j.rev j.rev) := dif_pos j.isLt

/-- A matrix the factorization runs through. -/
structure Spd (H : Mat) : Prop where
  symm : ∀ i k, H i k = H k i
  pos : ∀ x : Fin 256 → ℝ, x ≠ 0 → 0 < quad H x

section
variable {H : Mat} (h : Spd H)
include h

theorem Spd.symm_rem (j : ℕ) (i k : Fin 256) : rem H j i k = rem H j k i := by
  induction j generalizing i k with
  | zero => exact h.symm i k
  | succ j ih =>
    unfold rem
    split_ifs with hj
    · rw [ih i k]; ring
    · rfl

theorem Spd.elim : Elim (rem H) := fun j i k _ _ => by rw [rem_succ, h.symm_rem j k j]

theorem Spd.pivot (j : Fin 256) : 0 < rem H j j j := h.elim.pivot h.symm h.pos j

/-- A column taken off leaves zeros. -/
theorem Spd.zero (j : ℕ) (i k : Fin 256) (hi : i.val < j) (hj : j ≤ 256) : rem H j i k = 0 := by
  induction j generalizing k with
  | zero => omega
  | succ j ih =>
    have hj' : j < 256 := by omega
    have e := rem_succ H ⟨j, hj'⟩ i k
    simp only at e
    rw [e]
    by_cases hij : i.val = j
    · obtain rfl : i = ⟨j, hj'⟩ := Fin.ext hij
      have hp := h.pivot ⟨j, hj'⟩
      simp only at hp
      have h2 := Real.mul_self_sqrt hp.le
      have h0 := (Real.sqrt_pos.2 hp).ne'
      rw [h.symm_rem j k]
      field_simp
      rw [Real.sq_sqrt hp.le]
      ring
    · rw [ih k (by omega) (by omega), ih ⟨j, hj'⟩ (by omega) (by omega)]
      ring

theorem Spd.fcol_diag (j : Fin 256) : fcol H j j = √(rem H j j j) := Real.div_sqrt
theorem Spd.fcol_ne (j : Fin 256) : fcol H j j ≠ 0 := by rw [h.fcol_diag]; exact (Real.sqrt_pos.2 (h.pivot j)).ne'
theorem Spd.fcol_zero (i j : Fin 256) (hij : i < j) : fcol H i j = 0 := by
  unfold fcol; rw [h.zero j i j hij j.isLt.le, zero_div]

/-- The two solves give the system's solution. -/
theorem Spd.solve (r : Fin 256 → ℝ) (i : Fin 256) : ∑ k, H i k * bw H r 256 k = r i := by
  refine h.elim.solve h.symm h.pos (fw H r) (fun j i => ?_) (bw H r) rfl (fun k j i hj hk => ?_) i
  · rw [fw_succ, h.fcol_diag]
    by_cases h1 : i < j
    · rw [if_pos h1, if_neg h1.ne, h.fcol_zero _ _ h1, zero_mul, sub_zero]
    · rw [if_neg h1]; rfl
  · obtain rfl : j = (⟨k, hk⟩ : Fin 256).rev := Fin.ext (by rw [Fin.val_rev]; simp only; omega)
    have e := bw_succ H r ⟨k, hk⟩ i
    simp only at e
    rw [e, h.fcol_diag]
    by_cases h1 : (⟨k, hk⟩ : Fin 256).rev < i
    · rw [if_pos h1, if_neg h1.ne', h.fcol_zero _ _ h1, zero_mul, sub_zero]
    · rw [if_neg h1]; rfl
end

theorem fcol_step (H : Mat) (k i x : Fin 256) :
    (if x = k then rem H k.val i k / √(rem H k.val k k) else if x.val < k.val then fcol H i x else 0)
      = if x.val < k.val + 1 then fcol H i x else 0 := by
  by_cases e : x = k
  · rw [if_pos e, if_pos (by rw [e]; omega)]
    subst e; rfl
  · have e' : x.val ≠ k.val := fun h => e (Fin.ext h)
    rw [if_neg e]
    exact if_congr (by omega) rfl rfl

theorem factorV_L (H : Fin 32 → Mat) (h : ∀ b, Spd (H b)) : (factorV (F := Ideal) (L (u3 H))).2 = L (u3 fun b => fcol (H b)) := by
  have := fold_inv (n := k0_t2_loop.trips) (fun k c => (k0_pay8 (F := Ideal) (iota .tc S1x256x1 32 [1] iota_S1x256x1_d1_w32) k c.1,
      k0_pay9 (iota .tc S1x256x1 32 [1] iota_S1x256x1_d1_w32) k c.1 c.2))
    (fun j c => c = (L (u3 fun b => rem (H b) j), L (u3 fun b i k => if k.val < j then fcol (H b) i k else 0)))
    (L (u3 H), k0_pay6 (F := Ideal)) (by
      refine Prod.ext rfl ?_
      exact L_zero (s := S32x256x256)) (by
      rintro k c rfl
      refine Prod.ext ?_ ?_
      · refine (pay8_L (fun b => rem (H b) k.val) k fun b => (h b).pivot k).trans (L_congr _ _ fun i => ?_)
        exact (rem_succ (H (i 0)) k (i 1) (i 2)).symm
      · refine (pay9_L (fun b => rem (H b) k.val) _ k fun b => (h b).pivot k).trans (L_congr _ _ fun i => ?_)
        exact fcol_step (H (i 0)) k (i 1) (i 2))
  unfold factorV
  rw [this]
  refine L_congr _ _ fun i => if_pos ?_
  exact (i 2).isLt

theorem solve1_L (H : Fin 32 → Mat) (h : ∀ b, Spd (H b)) (r : Fin 32 → Fin 256 → ℝ) :
    solve1 (F := Ideal) (L (u3 fun b => fcol (H b))) (L (u2 r)) = L (u2 fun b => bw (H b) (r b) 256) := by
  have h1 := fold_inv (n := k0_t3_loop.trips) (fun k c => k0_pay10 (F := Ideal) (L (u3 fun b => fcol (H b))) k c)
    (fun j c => c = L (u2 fun b => fw (H b) (r b) j)) (L (u2 r)) rfl (by
      rintro k c rfl
      refine (pay10_L _ _ k fun b => (h b).fcol_ne k).trans (L_congr _ _ fun i => ?_)
      exact (fw_succ (H (i 0)) _ k (i 1)).symm)
  have h2 := fold_inv (n := k0_t4_loop.trips) (fun k c => k0_pay11 (F := Ideal) (L (u3 fun b => fcol (H b))) k c)
    (fun j c => c = L (u2 fun b => bw (H b) (r b) j)) (L (u2 fun b => fw (H b) (r b) 256)) rfl (by
      rintro k c rfl
      refine (pay11_L _ _ k fun b => (h b).fcol_ne _).trans (L_congr _ _ fun i => ?_)
      exact (bw_succ (H (i 0)) _ k (i 1)).symm)
  unfold solve1
  rw [h1]
  exact h2

end Cert.ReferenceIdeal
-- ==== Proof.RefPay.lean ====
/-
  The reference's step, value by value, over the reals.
-/
module

public import proofs.«01_k».proof.Proof.RefSolve
public import proofs.«01_k».proof.Proof.Spec

@[expose] public section

set_option maxRecDepth 100000

noncomputable section

namespace Cert.ReferenceIdeal

open Cert.ReferenceIdeal.Gen
open Idealize.ShloMosaic Idealize.ShloMosaic.TcCoe Idealize.ShloMosaic.Tactic
open Emd hiding w1 w2
open Finset

section
variable (G : Fin 288 → Fin 256 → ℝ) (x p dx u v : Fin 32 → Fin 256 → ℝ) (s z h rs rp ds : Fin 32 → Fin 288 → ℝ) (y b ra al : Fin 32 → ℝ)

/-- One value per jet. -/
def col (f : Fin 32 → ℝ) : FVec Ideal S32x1 .f32 := L (u2 fun b (_ : Fin 1) => f b)

/-- The matrix of the constraints and its transpose. -/
def gMat : FVec Ideal S288x256 .f32 := L (u2 G)
def gMatT : FVec Ideal S256x288 .f32 := L (u2 fun m k => G k m)

theorem w288 : Ideal.ofBits .f32 1133510656#32 = ((288 : ℝ) : EReal) := by
  simp [Ideal.ofBits, Ideal.ieee, -EReal.coe_mul]
  norm_num

theorem selE (i j : Fin 256) (a : ℝ) : Scalar.select (IntOp.cmpi .eq (BitVec.ofNat 32 i) (BitVec.ofNat 32 j)) ((a : ℝ) : EReal) 0
    = ((a * (if i = j then 1 else 0) : ℝ) : EReal) := by
  have hc : (Scalar.select (IntOp.cmpi .eq (BitVec.ofNat 32 i.val) (BitVec.ofNat 32 j.val)) ((a : ℝ) : EReal) 0)
      = if i = j then ((a : ℝ) : EReal) else 0 := by
    rw [word_eq _ _ i.isLt j.isLt]
    exact if_congr Fin.ext_iff.symm rfl rfl
  rw [hc]
  split_ifs <;> simp

theorem pay1_L : k0_pay1 (F := Ideal) (gMatT G) (L (u2 h)) (L (u2 x)) (L (u2 s)) = L (u2 fun b k => ∑ m, x b m * G k m + s b k - h b k) := by
  funext i
  unfold k0_pay1 gMatT
  idx_vars i
  pointwise [L, u2]
  simp only [coe_sum, ← EReal.coe_mul, ← EReal.coe_add, ← EReal.coe_sub]

theorem pay2_L : k0_pay2 (F := Ideal) (col b) (L (u2 x)) = col fun j => ∑ m, x j m - b j := by
  funext i
  unfold k0_pay2 col
  idx_vars i
  pointwise [L, u2]
  simp only [coe_sum, ← EReal.coe_sub]

theorem pay3_L : k0_pay3 (F := Ideal) (L (u2 s)) (L (u2 z)) = L (u2 fun b k => s b k * z b k - Emd.sig * ((∑ k, s b k * z b k) / 288)) := by
  funext i
  unfold k0_pay3
  idx_vars i
  pointwise [L, u2]
  rw [show Ideal.ofBits FTy.f32 1036831949#32 = ((Emd.sig : ℝ) : EReal) from w_real _ (by decide), w288]
  simp only [coe_sum, ← EReal.coe_mul, div_real _ _ (by norm_num : (288 : ℝ) ≠ 0), ← EReal.coe_sub]

theorem pay4_L (hs : ∀ b k, s b k ≠ 0) : k0_pay4 (F := Ideal) (gMat G) (k0_pay32 (F := Ideal)) (L (u2 s)) (L (u2 z))
    = L (u3 fun b i j => L2 * (if i = j then 1 else 0) + LO * (if i = j then 1 else 0) + ∑ k, z b k / s b k * (G k i * G k j)) := by
  funext i
  unfold k0_pay4 k0_pay32 gMat
  dsimp only
  idx_vars i
  pointwise [L, u2, u3]
  rw [show Ideal.ofBits FTy.f32 953267991#32 = ((L2 : ℝ) : EReal) from w_real _ (by decide),
    show Ideal.ofBits FTy.f32 741458995#32 = ((LO : ℝ) : EReal) from w_real _ (by decide)]
  simp only [selE, div_real _ _ (hs _ _), ← EReal.coe_mul, coe_sum, ← EReal.coe_add]
  rfl

theorem pay5_L (hs : ∀ b k, s b k ≠ 0) : k0_pay5 (F := Ideal) (L (u2 p)) (gMat G) (gMatT G) (L (u2 h)) (L (u2 x)) (L (u2 s)) (L (u2 z)) (col y)
    = L (u2 fun b m => L2 * x b m + p b m + ∑ k, z b k * G k m + y b
        + ∑ k, (z b k * (∑ m, x b m * G k m + s b k - h b k) - (s b k * z b k - Emd.sig * ((∑ k, s b k * z b k) / 288))) / s b k * G k m) := by
  funext i
  unfold k0_pay5
  rw [pay1_L, pay3_L]
  unfold gMat col
  idx_vars i
  pointwise [L, u2]
  rw [show Ideal.ofBits FTy.f32 953267991#32 = ((L2 : ℝ) : EReal) from w_real _ (by decide)]
  simp only [← EReal.coe_mul, ← EReal.coe_sub, div_real _ _ (hs _ _), coe_sum, ← EReal.coe_add]

theorem pay15_L (hv : ∀ b, ∑ m, v b m ≠ 0) : k0_pay15 (F := Ideal) (col ra) (L (u2 u)) (L (u2 v)) = col fun b => (ra b - ∑ m, u b m) / ∑ m, v b m := by
  funext i
  unfold k0_pay15 col
  idx_vars i
  pointwise [L, u2]
  simp only [coe_sum, ← EReal.coe_sub, div_real _ _ (hv _)]

theorem pay20_L (hs : ∀ b k, s b k ≠ 0) : k0_pay20 (F := Ideal) (L (u2 s)) (L (u2 z)) (L (u2 rs)) (L (u2 rp)) (L (u2 ds))
      = L (u2 fun b k => dzS (s b k) (z b k) (rs b k) (rp b k - ds b k)) := by
  funext i
  unfold k0_pay20 k0_pay19
  idx_vars i
  pointwise [L, u2]
  simp only [← EReal.coe_zero, ← EReal.coe_mul, ← EReal.coe_sub, div_real _ _ (hs _ _)]
  rfl

theorem pay16_L (hv : ∀ b, ∑ m, v b m ≠ 0) : k0_pay16 (F := Ideal) (col ra) (L (u2 u)) (L (u2 v))
    = L (u2 fun b m => 0 - u b m - v b m * ((ra b - ∑ m, u b m) / ∑ m, v b m)) := by
  funext i
  unfold k0_pay16
  rw [pay15_L _ _ _ hv]
  unfold col
  idx_vars i
  pointwise [L, u2]
  simp only [coe_sum, ← EReal.coe_zero, ← EReal.coe_mul, ← EReal.coe_add, ← EReal.coe_sub]

theorem pay17_L : k0_pay17 (F := Ideal) (L (u2 rp)) = L (u2 fun b k => 0 - rp b k) := by
  funext i
  unfold k0_pay17
  idx_vars i
  pointwise [L, u2]
  simp only [coe_sum, ← EReal.coe_zero, ← EReal.coe_mul, ← EReal.coe_add, ← EReal.coe_sub]

theorem pay18_L (hv : ∀ b, ∑ m, v b m ≠ 0) : k0_pay18 (F := Ideal) (gMatT G) (col ra) (L (u2 u)) (L (u2 v))
    = L (u2 fun b k => ∑ m, (0 - u b m - v b m * ((ra b - ∑ m, u b m) / ∑ m, v b m)) * G k m) := by
  funext i
  unfold k0_pay18
  rw [pay16_L _ _ _ hv]
  unfold gMatT
  idx_vars i
  pointwise [L, u2]
  simp only [coe_sum, ← EReal.coe_zero, ← EReal.coe_mul, ← EReal.coe_add, ← EReal.coe_sub]

theorem pay19_L : k0_pay19 (F := Ideal) (L (u2 rp)) (L (u2 ds)) = L (u2 fun b k => rp b k - ds b k) := by
  funext i
  unfold k0_pay19
  idx_vars i
  pointwise [L, u2]
  simp only [coe_sum, ← EReal.coe_zero, ← EReal.coe_mul, ← EReal.coe_add, ← EReal.coe_sub]

/-- The bound a value's change sets, as the reference selects it. -/
theorem bndE (x dx : ℝ) : (if ((dx : ℝ) : EReal) < 0 then Ideal.div (0 - ((x : ℝ) : EReal)) (if ((dx : ℝ) : EReal) < 0 then ((dx : ℝ) : EReal) else 0 - 1)
    else ⊤) = bnd x dx := by
  have h : ((dx : ℝ) : EReal) < 0 ↔ dx < 0 := by rw [← EReal.coe_zero, EReal.coe_lt_coe_iff]
  unfold bnd
  by_cases hd : dx < 0
  · rw [if_pos (h.2 hd), if_pos (h.2 hd), if_pos hd, ← EReal.coe_zero, ← EReal.coe_sub, div_real _ _ hd.ne]
  · rw [if_neg (fun e => hd (h.1 e)), if_neg hd]

theorem pay21_L (hs : ∀ b k, s b k ≠ 0) : k0_pay21 (F := Ideal) (L (u2 s)) (L (u2 z)) (L (u2 rs)) (L (u2 rp)) (L (u2 ds))
      = fun i => min 1 (min (univ.inf fun k => bnd (s (i 0) k) (rp (i 0) k - ds (i 0) k))
        (univ.inf fun k => bnd (z (i 0) k) (dzS (s (i 0) k) (z (i 0) k) (rs (i 0) k) (rp (i 0) k - ds (i 0) k)))) * ((shr : ℝ) : EReal) := by
  funext i
  unfold k0_pay21
  rw [pay20_L _ _ _ _ _ hs, pay19_L]
  idx_vars i
  pointwise [L, u2]
  rw [show Ideal.ofBits FTy.f32 1065185444#32 = ((shr : ℝ) : EReal) from w_real _ (by decide), mul_comm,
    show Ideal.ofBits FTy.f32 2139095040#32 = (⊤ : EReal) from winf]
  simp only [bndE]
  rfl

theorem pay37_L : k0_pay37 (F := Ideal) (L (u2 x)) (L (u2 u)) = L (u2 fun b m => x b m + u b m) := by
  funext i
  unfold k0_pay37
  idx_vars i
  pointwise [L, u2]
  simp only [coe_sum, ← EReal.coe_zero, ← EReal.coe_mul, ← EReal.coe_add, ← EReal.coe_sub]

theorem pay38_L : k0_pay38 (F := Ideal) (L (u2 s)) (L (u2 ds)) (col al) = L (u2 fun b m => mvS (s b m) (al b) (ds b m)) := by
  funext i
  unfold k0_pay38 col
  idx_vars i
  pointwise [L, u2]
  rw [show Ideal.ofBits FTy.f32 368547464#32 = ((flr : ℝ) : EReal) from w_real _ (by decide)]
  simp only [← EReal.coe_mul, ← EReal.coe_add, ← EReal.coe_strictMono.monotone.map_max]
  rfl

theorem pay40_L : k0_pay40 (F := Ideal) (col y) (col ra) (col al) = col fun b => y b + al b * ra b := by
  funext i
  unfold k0_pay40 col
  idx_vars i
  pointwise [L, u2]
  simp only [coe_sum, ← EReal.coe_zero, ← EReal.coe_mul, ← EReal.coe_add, ← EReal.coe_sub]

end
end Cert.ReferenceIdeal
-- ==== Proof.Flat.lean ====
/-
  The constraints as one matrix: what the reference writes over 256 flows and 288 constraints is what each kind of
  constraint says by rows and columns.
-/
module

public import proofs.«01_k».proof.Proof.RefSolve
public import proofs.«01_k».proof.Proof.Spec

@[expose] public section

noncomputable section

namespace Emd

open Finset

/-- The row and the column of a flow, and the flow at a row and a column. -/
def hi (m : Fin 256) : Fin 16 := ⟨m.val / 16, by omega⟩
def lo (m : Fin 256) : Fin 16 := ⟨m.val % 16, by omega⟩
def aM (i j : Fin 16) : Fin 256 := ⟨i.val * 16 + j.val, by omega⟩
/-- The constraint of a flow, of a row, of a column. -/
def aF (i j : Fin 16) : Fin 288 := ⟨i.val * 16 + j.val, by omega⟩
def aR (i : Fin 16) : Fin 288 := ⟨256 + i.val, by omega⟩
def aC (j : Fin 16) : Fin 288 := ⟨272 + j.val, by omega⟩

@[simp] theorem hi_aM (i j : Fin 16) : hi (aM i j) = i := by ext; simp only [hi, aM]; omega
@[simp] theorem lo_aM (i j : Fin 16) : lo (aM i j) = j := by ext; simp only [lo, aM]; omega
theorem aM_hi_lo (m : Fin 256) : aM (hi m) (lo m) = m := by ext; simp only [hi, lo, aM]; omega

/-- One value per flow. -/
def flat {α : Type} (f : Fin 16 → Fin 16 → α) : Fin 256 → α := fun m => f (hi m) (lo m)
/-- One value per constraint. -/
def cat {α : Type} (f : Fin 16 → Fin 16 → α) (r c : Fin 16 → α) : Fin 288 → α := fun k =>
  if h : k.val < 256 then f (hi ⟨k.val, h⟩) (lo ⟨k.val, h⟩)
  else if h2 : k.val < 272 then r ⟨k.val - 256, by omega⟩ else c ⟨k.val - 272, by omega⟩

@[simp] theorem flat_aM {α : Type} (f : Fin 16 → Fin 16 → α) (i j : Fin 16) : flat f (aM i j) = f i j := by
  unfold flat; rw [hi_aM, lo_aM]
@[simp] theorem cat_aF {α : Type} (f : Fin 16 → Fin 16 → α) (r c : Fin 16 → α) (i j : Fin 16) : cat f r c (aF i j) = f i j := by
  have h : (aF i j).val < 256 := by simp only [aF]; omega
  unfold cat
  rw [dif_pos h]
  exact flat_aM f i j
@[simp] theorem cat_aR {α : Type} (f : Fin 16 → Fin 16 → α) (r c : Fin 16 → α) (i : Fin 16) : cat f r c (aR i) = r i := by
  unfold cat
  rw [dif_neg (by simp only [aR]; omega), dif_pos (by simp only [aR]; omega)]
  congr 1; ext; simp only [aR]; omega
@[simp] theorem cat_aC {α : Type} (f : Fin 16 → Fin 16 → α) (r c : Fin 16 → α) (i : Fin 16) : cat f r c (aC i) = c i := by
  unfold cat
  rw [dif_neg (by simp only [aC]; omega), dif_neg (by simp only [aC]; omega)]
  congr 1; ext; simp only [aC]; omega

theorem forall_256 {P : Fin 256 → Prop} : (∀ m, P m) ↔ ∀ i j, P (aM i j) :=
  ⟨fun h i j => h _, fun h m => aM_hi_lo m ▸ h _ _⟩

theorem forall_288 {P : Fin 288 → Prop} : (∀ k, P k) ↔ (∀ i j, P (aF i j)) ∧ (∀ i, P (aR i)) ∧ ∀ j, P (aC j) := by
  refine ⟨fun h => ⟨fun i j => h _, fun i => h _, fun j => h _⟩, fun h k => ?_⟩
  by_cases h1 : k.val < 256
  · have : aF (hi ⟨k.val, h1⟩) (lo ⟨k.val, h1⟩) = k := by ext; simp only [hi, lo, aF]; omega
    exact this ▸ h.1 _ _
  · by_cases h2 : k.val < 272
    · have : aR ⟨k.val - 256, by omega⟩ = k := by ext; simp only [aR]; omega
      exact this ▸ h.2.1 _
    · have : aC ⟨k.val - 272, by omega⟩ = k := by ext; simp only [aC]; omega
      exact this ▸ h.2.2 _

theorem sum_256 (f : Fin 256 → ℝ) : ∑ m, f m = ∑ i, ∑ j, f (aM i j) := by
  rw [← Fintype.sum_prod_type', ← (finProdFinEquiv (m := 16) (n := 16)).sum_comp]
  refine Finset.sum_congr rfl fun x _ => congrArg f ?_
  ext; simp only [finProdFinEquiv_apply_val, aM]; omega

theorem sum_288 (f : Fin 288 → ℝ) : ∑ k, f k = ∑ i, ∑ j, f (aF i j) + ∑ i, f (aR i) + ∑ j, f (aC j) := by
  rw [Fin.sum_univ_add (a := 272) (b := 16) f, Fin.sum_univ_add (a := 256) (b := 16), sum_256]
  rfl

/-- The matrix of the constraints. -/
def Gm (k : Fin 288) (m : Fin 256) : ℝ :=
  cat (fun i j => if i = hi m then (if j = lo m then -1 else 0) else 0) (fun i => if i = hi m then 1 else 0) (fun j => if j = lo m then 1 else 0) k

/-- Against the flows: the flow negated, the row sums, the column sums. -/
theorem mulG (x : Fin 16 → Fin 16 → ℝ) (k : Fin 288) : ∑ m, flat x m * Gm k m
    = cat (fun i j => - x i j) (fun i => ∑ j, x i j) (fun j => ∑ i, x i j) k := by
  revert k
  rw [forall_288]
  refine ⟨fun a b => ?_, fun a => ?_, fun b => ?_⟩ <;>
    simp only [sum_256, Gm, cat_aF, cat_aR, cat_aC, flat_aM, hi_aM, lo_aM, mul_ite, mul_one, mul_zero, mul_neg, Finset.sum_ite_eq, mem_univ, if_true,
      Finset.sum_ite_irrel, Finset.sum_const_zero]

/-- Against the constraints. -/
theorem Gmul (f : Fin 16 → Fin 16 → ℝ) (r c : Fin 16 → ℝ) (m : Fin 256) : ∑ k, cat f r c k * Gm k m
    = flat (fun i j => - f i j + r i + c j) m := by
  revert m
  rw [forall_256]
  intro a b
  simp only [sum_288, Gm, cat_aF, cat_aR, cat_aC, flat_aM, hi_aM, lo_aM, mul_ite, mul_one, mul_zero, mul_neg, Finset.sum_ite_eq', mem_univ, if_true,
      Finset.sum_ite_irrel, Finset.sum_const_zero]

/-- The Newton system's matrix. -/
def Hm (d : Fin 288 → ℝ) (i j : Fin 256) : ℝ :=
  L2 * (if i = j then 1 else 0) + LO * (if i = j then 1 else 0) + ∑ k, d k * (Gm k i * Gm k j)

theorem Hm_mul (d : Fin 288 → ℝ) (u : Fin 256 → ℝ) (i : Fin 256) :
    ∑ j, Hm d i j * u j = (L2 + LO) * u i + ∑ k, d k * (∑ j, u j * Gm k j) * Gm k i := by
  simp only [Hm, add_mul, Finset.sum_add_distrib, mul_ite, mul_one, mul_zero, ite_mul, zero_mul, Finset.sum_ite_eq, mem_univ, if_true]
  congr 1
  simp only [Finset.sum_mul, Finset.mul_sum]
  rw [Finset.sum_comm]
  exact Finset.sum_congr rfl fun k _ => Finset.sum_congr rfl fun j _ => by ring

theorem Hm_spd (d : Fin 288 → ℝ) (hd : ∀ k, 0 < d k) : Cert.ReferenceIdeal.Spd (Hm d) where
  symm i k := by
    unfold Hm
    simp only [eq_comm (a := i) (b := k), mul_comm (Gm _ i)]
  pos x hx := by
    have h : quad (Hm d) x = (L2 + LO) * ∑ i, x i * x i + ∑ k, d k * ((∑ j, x j * Gm k j) * (∑ j, x j * Gm k j)) := by
      unfold quad
      simp only [mul_assoc, ← Finset.mul_sum]
      simp only [Hm_mul, mul_add, Finset.sum_add_distrib, Finset.mul_sum]
      congr 1
      · exact Finset.sum_congr rfl fun i _ => by ring
      · rw [Finset.sum_comm]
        refine Finset.sum_congr rfl fun k _ => ?_
        simp only [Finset.sum_mul, Finset.mul_sum]
        rw [Finset.sum_comm]
        exact Finset.sum_congr rfl fun i _ => Finset.sum_congr rfl fun j _ => by ring
    rw [h]
    obtain ⟨i, hi⟩ := Function.ne_iff.1 hx
    refine add_pos_of_pos_of_nonneg (mul_pos (add_pos L2_pos LO_pos) ?_) (Finset.sum_nonneg fun k _ => mul_nonneg (hd k).le (mul_self_nonneg _))
    exact Finset.sum_pos' (fun i _ => mul_self_nonneg _) ⟨i, mem_univ i, mul_self_pos.2 hi⟩

/-- What the matrix's solution says by rows and columns. -/
theorem Hm_sol (c : Jet) (hc : c.Pos) (d : Fin 288 → ℝ) (hd : d = cat (fun i j => c.z i j / c.s i j) (drS c) (dcS c))
    (r : Mx) (u : Fin 256 → ℝ) (hu : ∀ i, ∑ j, Hm d i j * u j = flat r i) : u = flat (sol (eS c) (drS c) (dcS c) r) := by
  have hf : u = flat fun i j => u (aM i j) := by
    funext m; exact congrArg u (aM_hi_lo m).symm
  have h : IsSol (eS c) (drS c) (dcS c) r fun i j => u (aM i j) := by
    intro i j
    have h1 := hu (aM i j)
    rw [Hm_mul, flat_aM, hf] at h1
    simp only [mulG] at h1
    have h2 := Gmul (fun i j => c.z i j / c.s i j * -u (aM i j)) (fun i => drS c i * ∑ j, u (aM i j)) (fun j => dcS c j * ∑ i, u (aM i j)) (aM i j)
    have h3 : (fun k => d k * cat (fun i j => -u (aM i j)) (fun i => ∑ j, u (aM i j)) (fun j => ∑ i, u (aM i j)) k)
        = cat (fun i j => c.z i j / c.s i j * -u (aM i j)) (fun i => drS c i * ∑ j, u (aM i j)) (fun j => dcS c j * ∑ i, u (aM i j)) := by
      funext k
      subst hd
      revert k
      rw [forall_288]
      exact ⟨fun a b => by simp only [cat_aF], fun a => by simp only [cat_aR], fun a => by simp only [cat_aC]⟩
    rw [← h3, flat_aM] at h2
    rw [h2, flat_aM] at h1
    rw [← h1]
    unfold eS
    ring
  rw [hf, sol_eq (eS_pos hc) (drS_pos hc) (dcS_pos hc) h]

/-- The least over the constraints is the least over each kind. -/
theorem inf_288 (f : Fin 288 → EReal) : univ.inf f = min (univ.inf fun i => univ.inf fun j => f (aF i j))
    (min (univ.inf fun i => f (aR i)) (univ.inf fun j => f (aC j))) := by
  refine eq_of_forall_le_iff fun q => ?_
  simp only [le_min_iff, Finset.le_inf_iff, mem_univ, forall_const]
  exact forall_288

end Emd
-- ==== Proof.RefStep.lean ====
/-
  The reference's loop over the reals: each trip is one step of every jet pair.
-/
module

public import proofs.«01_k».proof.Proof.RefPay
public import proofs.«01_k».proof.Proof.Flat
public import proofs.«01_k».proof.Proof.KernelStep

@[expose] public section

set_option maxRecDepth 100000

noncomputable section

namespace Emd
open Finset

section
variable (p : Mx) (w1 w2 : Vx) (b : ℝ) (c : Jet)

/-- The slacks and the multipliers over the constraints. -/
def sA : Fin 288 → ℝ := cat c.s c.sr c.sc
def zA : Fin 288 → ℝ := cat c.z c.zr c.zc
/-- The constraints' bounds. -/
def hA : Fin 288 → ℝ := cat (fun _ _ => 0) w1 w2
/-- The residuals over the constraints. -/
def rpA : Fin 288 → ℝ := cat (rpS c) (rprS w1 c) (rpcS w2 c)
def rsA : Fin 288 → ℝ := cat (rsS c) (rsrS c) (rscS c)
/-- The weights over the constraints. -/
def dA (k : Fin 288) : ℝ := zA c k / sA c k

theorem sA_pos (h : c.Pos) : ∀ k, 0 < sA c k := by
  rw [forall_288]; unfold sA
  exact ⟨fun i j => by rw [cat_aF]; exact h.s i j, fun i => by rw [cat_aR]; exact h.sr i, fun i => by rw [cat_aC]; exact h.sc i⟩
theorem zA_pos (h : c.Pos) : ∀ k, 0 < zA c k := by
  rw [forall_288]; unfold zA
  exact ⟨fun i j => by rw [cat_aF]; exact h.z i j, fun i => by rw [cat_aR]; exact h.zr i, fun i => by rw [cat_aC]; exact h.zc i⟩
theorem dA_pos (h : c.Pos) (k : Fin 288) : 0 < dA c k := div_pos (zA_pos c h k) (sA_pos c h k)

theorem dA_eq : dA c = cat (fun i j => c.z i j / c.s i j) (drS c) (dcS c) := by
  funext k; revert k
  rw [forall_288]; unfold dA zA sA drS dcS
  simp only [cat_aF, cat_aR, cat_aC, implies_true, and_true]

theorem rpA_eq (k : Fin 288) : ∑ m, flat c.X m * Gm k m + sA c k - hA w1 w2 k = rpA w1 w2 c k := by
  rw [mulG]; revert k
  rw [forall_288]; unfold sA hA rpA rpS rprS rpcS
  simp only [cat_aF, cat_aR, cat_aC, implies_true, and_true]
  intros; ring

theorem smu_eq : sig * ((∑ k, sA c k * zA c k) / 288) = smuS c := by
  rw [sum_288]; unfold sA zA smuS
  simp only [cat_aF, cat_aR, cat_aC]
  ring

theorem rsA_eq (k : Fin 288) : sA c k * zA c k - sig * ((∑ k, sA c k * zA c k) / 288) = rsA c k := by
  rw [smu_eq]; revert k
  rw [forall_288]; unfold sA zA rsA rsS rsrS rscS
  simp only [cat_aF, cat_aR, cat_aC, implies_true, and_true]

theorem r1_eq (m : Fin 256) : L2 * flat c.X m + flat p m + ∑ k, zA c k * Gm k m + c.y
    + ∑ k, (zA c k * rpA w1 w2 c k - rsA c k) / sA c k * Gm k m = flat (r1S p w1 w2 c) m := by
  have hg : (fun k => (zA c k * rpA w1 w2 c k - rsA c k) / sA c k)
      = cat (fun i j => gS (c.s i j) (c.z i j) (rsS c i j) (rpS c i j)) (fun i => gS (c.sr i) (c.zr i) (rsrS c i) (rprS w1 c i))
        (fun j => gS (c.sc j) (c.zc j) (rscS c j) (rpcS w2 c j)) := by
    funext k; revert k
    rw [forall_288]; unfold sA zA rpA rsA gS
    simp only [cat_aF, cat_aR, cat_aC, implies_true, and_true]
  have h1 : ∑ k, (zA c k * rpA w1 w2 c k - rsA c k) / sA c k * Gm k m = _ :=
    (Finset.sum_congr rfl fun k _ => congrArg (· * Gm k m) (congrFun hg k)).trans (Gmul _ _ _ m)
  rw [h1, show ∑ k, zA c k * Gm k m = _ from Gmul c.z c.zr c.zc m]
  revert m
  rw [forall_256]; intro i j _
  simp only [flat_aM, r1S]
  ring

theorem ra_eq : ∑ m, flat c.X m - b = raS b c := by
  rw [sum_256]; simp only [flat_aM, raS]

/-- What the factorization's solution is, by rows and columns. -/
theorem bw_eq (h : c.Pos) (r : Mx) : Cert.ReferenceIdeal.bw (Hm (dA c)) (flat r) 256 = flat (sol (eS c) (drS c) (dcS c) r) :=
  Hm_sol c h (dA c) (dA_eq c) r _ fun i => Cert.ReferenceIdeal.Spd.solve (Hm_spd _ (dA_pos c h)) (flat r) i

/-- The solution for ones has a positive sum. -/
theorem solv_pos (h : c.Pos) : 0 < ∑ m, flat (sol (eS c) (drS c) (dcS c) fun _ _ => 1) m := by
  have := Cert.ReferenceIdeal.Spd.solve (Hm_spd _ (dA_pos c h)) (flat fun _ _ => 1)
  rw [bw_eq c h] at this
  have h1 : ∑ m, flat (sol (eS c) (drS c) (dcS c) fun _ _ => 1) m = quad (Hm (dA c)) (flat (sol (eS c) (drS c) (dcS c) fun _ _ => 1)) := by
    unfold quad
    simp only [mul_assoc, ← Finset.mul_sum, this]
    simp only [flat, mul_one]
  rw [h1]
  refine (Hm_spd _ (dA_pos c h)).pos _ fun e => ?_
  have h0 := this 0
  rw [e] at h0
  simp [flat] at h0

theorem dX_eq (m : Fin 256) : 0 - flat (sol (eS c) (drS c) (dcS c) (r1S p w1 w2 c)) m - flat (sol (eS c) (drS c) (dcS c) fun _ _ => 1) m
    * dY p w1 w2 b c = flat (dX p w1 w2 b c) m := by
  show 0 - _ - _ = - _ - _
  rw [zero_sub]; rfl

theorem dY_eq : (raS b c - ∑ m, flat (sol (eS c) (drS c) (dcS c) (r1S p w1 w2 c)) m) / ∑ m, flat (sol (eS c) (drS c) (dcS c) fun _ _ => 1) m
    = dY p w1 w2 b c := by
  rw [sum_256, sum_256]
  simp only [flat_aM]
  rfl

/-- The slacks' and the multipliers' directions over the constraints. -/
def dsA : Fin 288 → ℝ := cat (dsS p w1 w2 b c) (dsrS p w1 w2 b c) (dscS p w1 w2 b c)
def dzA : Fin 288 → ℝ := cat (dz1S p w1 w2 b c) (dzrS p w1 w2 b c) (dzcS p w1 w2 b c)

theorem dsA_eq (k : Fin 288) : 0 - rpA w1 w2 c k - ∑ m, flat (dX p w1 w2 b c) m * Gm k m = dsA p w1 w2 b c k := by
  rw [mulG]; revert k
  rw [forall_288]; unfold dsA rpA dsS dsrS dscS
  simp only [cat_aF, cat_aR, cat_aC, implies_true, and_true]
  intros; ring

theorem dzA_eq (k : Fin 288) : dzS (sA c k) (zA c k) (rsA c k) (dsA p w1 w2 b c k) = dzA p w1 w2 b c k := by
  revert k
  rw [forall_288]; unfold dzA dsA sA zA rsA dz1S dzrS dzcS
  simp only [cat_aF, cat_aR, cat_aC, implies_true, and_true]

theorem cap_eq : min 1 (min (univ.inf fun k => bnd (sA c k) (dsA p w1 w2 b c k)) (univ.inf fun k => bnd (zA c k) (dzA p w1 w2 b c k)))
    = capE p w1 w2 b c := by
  rw [inf_288, inf_288]; unfold capE sA zA dsA dzA
  simp only [cat_aF, cat_aR, cat_aC]

theorem mvs_eq (k : Fin 288) : mvS (sA c k) (alS p w1 w2 b c) (dsA p w1 w2 b c k) = sA (stepS p w1 w2 b c) k := by
  revert k
  rw [forall_288]; unfold sA dsA stepS
  simp only [cat_aF, cat_aR, cat_aC, implies_true, and_true]
theorem mvz_eq (k : Fin 288) : mvS (zA c k) (alS p w1 w2 b c) (dzA p w1 w2 b c k) = zA (stepS p w1 w2 b c) k := by
  revert k
  rw [forall_288]; unfold zA dzA stepS
  simp only [cat_aF, cat_aR, cat_aC, implies_true, and_true]

end
end Emd

namespace Cert.ReferenceIdeal

open Cert.ReferenceIdeal.Gen
open Idealize.ShloMosaic Idealize.ShloMosaic.TcCoe Idealize.ShloMosaic.Tactic
open Emd hiding w1 w2
open Finset

section
variable (P : Fin 32 → Mx) (w1 w2 : Fin 32 → Vx) (c : Fin 32 → Jet)

/-- The carry whose entries are the jet pairs'. -/
def liftR : Carry Ideal := (L (u2 fun b => flat (c b).X), L (u2 fun b => sA (c b)), L (u2 fun b => zA (c b)), col fun b => (c b).y)

theorem pay23_id (v : FVec Ideal S32x256 .f32) : k0_pay23 (F := Ideal) v = v := by
  funext i; unfold k0_pay23; idx_vars i; pointwise []
theorem pay24_id (v : FVec Ideal S32x16 .f32) : k0_pay24 (F := Ideal) v = v := by
  funext i; unfold k0_pay24; idx_vars i; pointwise []
theorem pay29_id (v : FVec Ideal S288x256 .f32) : k0_pay29 (F := Ideal) v = v := by
  funext i; unfold k0_pay29; idx_vars i; pointwise []
theorem pay30_id (v : FVec Ideal S256x288 .f32) : k0_pay30 (F := Ideal) v = v := by
  funext i; unfold k0_pay30; idx_vars i; pointwise []

/-- The total weights. -/
theorem pay26_L : k0_pay26 (F := Ideal) (L (u2 w1)) = col fun b => ∑ i, w1 b i := by
  funext i
  unfold k0_pay26 k0_pay24 col
  idx_vars i
  pointwise [L, u2]
  simp only [coe_sum]
theorem pay28_L : k0_pay28 (F := Ideal) (L (u2 w1)) (L (u2 w2)) = col fun b => min (∑ i, w1 b i) (∑ i, w2 b i) := by
  unfold k0_pay28
  rw [pay26_L, show k0_pay27 (F := Ideal) (L (u2 w2)) = _ from pay26_L w2]
  exact L_min _ _

/-- The bounds: zero for a flow, the weights for rows and columns. -/
theorem pay31_L : k0_pay31 (F := Ideal) (L (u2 w1)) (L (u2 w2)) = L (u2 fun b => hA (w1 b) (w2 b)) := by
  funext i
  unfold k0_pay31 k0_pay24 k0_pay25
  idx_vars i
  pointwise [L, u2]
  unfold hA cat
  by_cases h1 : i1.val < 256
  · rw [dif_pos h1, dif_pos h1]; rfl
  · rw [dif_neg h1, dif_neg h1]
    by_cases h2 : i1.val < 272
    · rw [dif_pos (by omega), dif_pos h2]
    · rw [dif_neg (by omega), dif_neg h2]; congr 3

theorem pay22_L (s z rs nrp gdx : FVec Ideal S32x288 .f32) (al : Fin 32 → ℝ) (h : k0_pay21 (F := Ideal) s z rs nrp gdx = col al) (dx : Fin 32 → Fin 256 → ℝ) :
    k0_pay22 (F := Ideal) s z rs (L (u2 dx)) nrp gdx = L (u2 fun b m => al b * dx b m) := by
  unfold k0_pay22
  rw [h]
  funext i
  unfold col
  idx_vars i
  pointwise [L, u2]
  simp only [← EReal.coe_mul]

/-- One trip is one step of every jet pair. -/
theorem refStep_L (hc : ∀ b, (c b).Pos) : refStep (F := Ideal) (L (u2 fun b => flat (P b))) (L (u2 w1)) (L (u2 w2)) (gMat Gm) (gMatT Gm) (liftR c)
    = liftR fun b => stepS (P b) (w1 b) (w2 b) (min (∑ i, w1 b i) (∑ i, w2 b i)) (c b) := by
  have hs : ∀ b k, sA (c b) k ≠ 0 := fun b k => (sA_pos _ (hc b) k).ne'
  have hH : ∀ b, Spd (Hm (dA (c b))) := fun b => Hm_spd _ (dA_pos _ (hc b))
  have hv : ∀ b, ∑ m, flat (sol (eS (c b)) (drS (c b)) (dcS (c b)) fun _ _ => 1) m ≠ 0 := fun b => (solv_pos _ (hc b)).ne'
  unfold refStep liftR
  dsimp only
  rw [pay23_id, pay29_id, pay30_id, pay31_L, pay28_L, pay1_L, pay2_L, pay3_L, pay4_L _ _ _ hs, pay5_L _ _ _ _ _ _ _ hs, solve2_eq]
  simp only [rpA_eq, rsA_eq, r1_eq, ra_eq]
  rw [show (L (u3 fun b i j => L2 * (if i = j then 1 else 0) + LO * (if i = j then 1 else 0) + ∑ k, zA (c b) k / sA (c b) k * (Gm k i * Gm k j))
      : FVec Ideal S32x256x256 .f32) = L (u3 fun b => Hm (dA (c b))) from rfl, factorV_L _ hH,
    show k0_pay12 (F := Ideal) = L (u2 fun (_ : Fin 32) => flat fun _ _ => (1 : ℝ)) from funext fun i => Emd.w1, solve1_L _ hH, solve1_L _ hH]
  simp only [bw_eq _ (hc _)]
  rw [pay15_L _ _ _ hv, pay16_L _ _ _ hv, pay17_L, pay18_L _ _ _ _ hv]
  simp only [dX_eq, dY_eq]
  rw [pay19_L, pay20_L _ _ _ _ _ hs]
  simp only [dsA_eq, dzA_eq]
  have hal : k0_pay21 (F := Ideal) (L (u2 fun b => sA (c b))) (L (u2 fun b => zA (c b))) (L (u2 fun b => rsA (c b)))
      (L (u2 fun b k => 0 - rpA (w1 b) (w2 b) (c b) k)) (L (u2 fun b k => ∑ m, flat (dX (P b) (w1 b) (w2 b) (min (∑ i, w1 b i) (∑ i, w2 b i)) (c b)) m * Gm k m))
      = col fun b => alS (P b) (w1 b) (w2 b) (min (∑ i, w1 b i) (∑ i, w2 b i)) (c b) := by
    rw [pay21_L _ _ _ _ _ hs]
    simp only [dsA_eq, dzA_eq, cap_eq]
    funext i
    rw [capE_real, ← EReal.coe_mul, mul_comm]
    rfl
  rw [pay22_L _ _ _ _ _ _ hal, hal, pay37_L, pay38_L, show @k0_pay39 Ideal = @k0_pay38 Ideal from rfl, pay38_L, pay40_L]
  simp only [mvs_eq, mvz_eq]
  rfl

end
end Cert.ReferenceIdeal
-- ==== Proof.RefHost.lean ====
/-
  What the reference's host operations leave before its kernel runs: the distances, the weights, and the matrix of the
  constraints with its transpose.
-/
module

public import proofs.«01_k».proof.Proof.BodyRI
public import proofs.«01_k».proof.Proof.RefStep
public import proofs.«01_k».proof.Proof.KernelRun

@[expose] public section

set_option maxRecDepth 100000

noncomputable section

namespace Cert.ReferenceIdeal

open Cert.ReferenceIdeal.Gen
open Idealize.ShloMosaic Idealize.ShloMosaic.TcCoe Idealize.ShloMosaic.Tactic
open Emd hiding w1 w2
open Cert.KernelIdeal (Jets ofJets pairS dst)
open Finset

/-- The two coordinates of every particle. -/
def xy (X : FVec Ideal S32x16x3 .f32) : FVec Ideal S32x16x2 .f32 := extractStridedSlice S32x16x2 ![0, 0, 0] X slices_S32x16x3_S32x16x2_0_0_0

/-- The differences of every pair's coordinates, moved off zero. -/
def dif (X Y : FVec Ideal S32x16x3 .f32) : FVec Ideal S32x16x16x2 .f32 :=
  addf (Host.negf (subf (broadcastInDim S32x16x16x2 ![0, 1, 2, 3] bcast_S32x16x1x2_S32x16x16x2_0_1_2_3 (broadcastInDim S32x16x1x2 ![0, 1, 3] bcast_S32x16x2_S32x16x1x2_0_1_3 (xy X)))
      (broadcastInDim S32x16x16x2 ![0, 1, 2, 3] bcast_S32x1x16x2_S32x16x16x2_0_1_2_3 (broadcastInDim S32x1x16x2 ![0, 2, 3] bcast_S32x16x2_S32x1x16x2_0_2_3 (xy Y)))))
    (broadcastInDim S32x16x16x2 ![] bcast_S_S32x16x16x2 (constant (F := Ideal) S_ .f32 0x2B8CBCCC#32))

/-- The distances of every pair. -/
def dists (X Y : FVec Ideal S32x16x3 .f32) : FVec Ideal S32x256 .f32 :=
  shapeCast S32x256 (Host.sqrt (Host.reduceAdd (mulf (dif X Y) (dif X Y)) (constant (F := Ideal) S_ .f32 0x00000000#32) reducesTo_S32x16x16x2_S32x16x16_d3 h_S_)) shapeCasts_S32x16x16_S32x256

/-- The weights. -/
def wts (X : FVec Ideal S32x16x3 .f32) : FVec Ideal S32x16 .f32 :=
  shapeCast S32x16 (extractStridedSlice S32x16x1 ![0, 0, 2] X slices_S32x16x3_S32x16x1_0_0_2) shapeCasts_S32x16x1_S32x16

/-- The constraints on flows. -/
def gF : FVec Ideal S256x256 .f32 :=
  select (cmpi .eq (iotaInDim S256x256 32 0) (iotaInDim S256x256 32 1)) (broadcastInDim S256x256 ![] bcast_S_S256x256 (constant (F := Ideal) S_ .f32 0xBF800000#32))
    (broadcastInDim S256x256 ![] bcast_S_S256x256 (constant (F := Ideal) S_ .f32 0x00000000#32))
/-- The constraints on one side's sums. -/
def gS3 (k : IVec S16x16x16 32) : FVec Ideal S16x256 .f32 :=
  shapeCast S16x256 (select (cmpi .eq (iotaInDim S16x16x16 32 0) k) (broadcastInDim S16x16x16 ![] bcast_S_S16x16x16 (constant (F := Ideal) S_ .f32 0x3F800000#32))
    (broadcastInDim S16x16x16 ![] bcast_S_S16x16x16 (constant (F := Ideal) S_ .f32 0x00000000#32))) shapeCasts_S16x16x16_S16x256
/-- All constraints. -/
def gAll : FVec Ideal S288x256 .f32 :=
  concatenate S288x256 0 [⟨S256x256, gF⟩, ⟨S16x256, gS3 (iotaInDim S16x16x16 32 1)⟩, ⟨S16x256, gS3 (iotaInDim S16x16x16 32 2)⟩]
    concatenates_S256x256_S16x256_S16x256_S288x256_d0

variable (m : (ℓ : Loc nD τ sig) → Buf (Elt Ideal) ℓ) (c : Dev nD)

theorem V14 : V m c main_v14 = wts (m ((c : Thread nD τ).loc main_arg0)) := by
  simp only [V, V0, hostOps0, hostOps0_1, hostOps0_2, hostOps0_3, hostOps0_4, hostOps0_5, hostOps0_6, List.flatten_cons, List.flatten_nil, List.append_nil, List.cons_append, List.nil_append]
  after_results
  rfl
theorem V16 : V m c main_v16 = wts (m ((c : Thread nD τ).loc main_arg1)) := by
  simp only [V, V0, hostOps0, hostOps0_1, hostOps0_2, hostOps0_3, hostOps0_4, hostOps0_5, hostOps0_6, List.flatten_cons, List.flatten_nil, List.append_nil, List.cons_append, List.nil_append]
  after_results
  rfl
theorem V17 : V m c main_v17 = dists (m ((c : Thread nD τ).loc main_arg0)) (m ((c : Thread nD τ).loc main_arg1)) := by
  simp only [V, V0, hostOps0, hostOps0_1, hostOps0_2, hostOps0_3, hostOps0_4, hostOps0_5, hostOps0_6, List.flatten_cons, List.flatten_nil, List.append_nil, List.cons_append, List.nil_append]
  after_results
  rfl
theorem V31 : V m c main_v31 = gAll := by
  simp only [V, V0, hostOps0, hostOps0_1, hostOps0_2, hostOps0_3, hostOps0_4, hostOps0_5, hostOps0_6, List.flatten_cons, List.flatten_nil, List.append_nil, List.cons_append, List.nil_append]
  after_results
  rfl
theorem V32 : V m c main_v32 = transpose S256x288 [1, 0] gAll transposes_S288x256_S256x288_1_0 := by
  simp only [V, V0, hostOps0, hostOps0_1, hostOps0_2, hostOps0_3, hostOps0_4, hostOps0_5, hostOps0_6, List.flatten_cons, List.flatten_nil, List.append_nil, List.cons_append, List.nil_append]
  after_results
  rfl

theorem wts_L (j : Jets) : wts (ofJets j) = L (u2 fun b i => j b i 2) := by
  funext i
  unfold wts ofJets
  idx_vars i
  pointwise [L, u2]

theorem w_neg : Ideal.ofBits .f32 3212836864#32 = ((-1 : ℝ) : EReal) := by
  simp [Ideal.ofBits, Ideal.ieee, -EReal.coe_mul]
  norm_num

theorem dif_L (j1 j2 : Jets) (b : Fin 32) (i k : Fin 16) (o : Fin 2) : dif (ofJets j1) (ofJets j2) (ix4 b i k o)
    = ((0 - (j1 b i (o.castSucc) - j2 b k (o.castSucc)) + wr 0x2B8CBCCC#32 : ℝ) : EReal) := by
  unfold dif xy ofJets
  pointwise []
  rw [show Ideal.ofBits FTy.f32 730643660#32 = ((wr 0x2B8CBCCC#32 : ℝ) : EReal) from w_real _ (by decide), zero_sub]
  push_cast
  rfl

theorem dists_L (j1 j2 : Jets) : dists (ofJets j1) (ofJets j2) = L (u2 fun b => flat fun i j => dst (j1 b i 0) (j1 b i 1) (j2 b j 0) (j2 b j 1)) := by
  funext i
  unfold dists
  idx_vars i
  pointwise [L, u2]
  simp only [Fin.sum_univ_two, dif_L, ← EReal.coe_mul, ← EReal.coe_add]
  exact sqrt_real _ (add_nonneg (mul_self_nonneg _) (mul_self_nonneg _))

theorem gF_L (a b : Fin 256) : gF (ix2 a b) = ((if a = b then -1 else 0 : ℝ) : EReal) := by
  unfold gF
  pointwise []
  rw [word_eq _ _ a.isLt b.isLt, w_neg]
  by_cases h : a = b
  · rw [if_pos h, if_pos (congrArg Fin.val h)]
  · rw [if_neg h, if_neg (fun e => h (Fin.ext e))]; rfl
theorem gR_L (a : Fin 16) (b : Fin 256) : gS3 (iotaInDim S16x16x16 32 1) (ix2 a b) = ((if a = hi b then 1 else 0 : ℝ) : EReal) := by
  unfold gS3
  pointwise []
  rw [word_eq _ _ (by omega) (by omega)]
  by_cases h : a = hi b
  · rw [if_pos h, if_pos (show a.val = b.val / 16 from congrArg Fin.val h)]; rfl
  · rw [if_neg h, if_neg (fun e : a.val = b.val / 16 => h (Fin.ext e))]; rfl
theorem gC_L (a : Fin 16) (b : Fin 256) : gS3 (iotaInDim S16x16x16 32 2) (ix2 a b) = ((if a = lo b then 1 else 0 : ℝ) : EReal) := by
  unfold gS3
  pointwise []
  rw [word_eq _ _ (by omega) (by omega)]
  by_cases h : a = lo b
  · rw [if_pos h, if_pos (show a.val = b.val % 16 from congrArg Fin.val h)]; rfl
  · rw [if_neg h, if_neg (fun e : a.val = b.val % 16 => h (Fin.ext e))]; rfl
theorem gAll_L : gAll = gMat Gm := by
  funext i
  unfold gAll gMat
  idx_vars i
  pointwise [L, u2]
  simp only [gF_L, gR_L, gC_L]
  unfold Gm cat
  by_cases h1 : i0.val < 256
  · rw [dif_pos h1, dif_pos h1]
    congr 1
    dsimp only
    by_cases h : (⟨i0.val, h1⟩ : Fin 256) = i1
    · subst h; rw [if_pos rfl, if_pos rfl, if_pos rfl]
    · rw [if_neg h]
      by_cases h2 : hi ⟨i0.val, h1⟩ = hi i1
      · rw [if_pos h2, if_neg fun h3 => h (by rw [← aM_hi_lo ⟨i0.val, h1⟩, h2, h3, aM_hi_lo])]
      · rw [if_neg h2]
  · rw [dif_neg h1, dif_neg h1]
    by_cases h2 : i0.val < 272
    · rw [dif_pos (by omega), dif_pos h2]
    · rw [dif_neg (by omega), dif_neg h2]; congr 3
theorem gT_L : transpose S256x288 [1, 0] gAll transposes_S288x256_S256x288_1_0 = gMatT Gm := by
  rw [gAll_L]
  funext i
  unfold gMat gMatT
  idx_vars i
  pointwise [L, u2]

end Cert.ReferenceIdeal
-- ==== Proof.RefRun.lean ====
/-
  The reference's result on real arguments: each jet pair's entry is `emdS` of its distances and weights.
-/
module

public import proofs.«01_k».proof.Proof.RefHost

@[expose] public section

set_option maxRecDepth 100000

noncomputable section

namespace Cert.ReferenceIdeal

open Cert.ReferenceIdeal.Gen
open Idealize.ShloMosaic Idealize.ShloMosaic.TcCoe Idealize.ShloMosaic.Tactic
open Emd hiding w1 w2
open Cert.KernelIdeal (Jets ofJets pairS dst)
open Finset

section
variable (P : Fin 32 → Mx) (w1 w2 : Fin 32 → Vx)

/-- The loop starts at every jet pair's start. -/
theorem start_L : ((k0_pay33 (F := Ideal), k0_pay34 (F := Ideal), k0_pay35 (F := Ideal), k0_pay36 (F := Ideal)) : Carry Ideal) = liftR fun _ => jet0 := by
  have h1 : ∀ k, sA jet0 k = 1 := by
    rw [forall_288]; unfold sA jet0
    simp only [cat_aF, cat_aR, cat_aC, implies_true, and_true]
  have h2 : ∀ k, zA jet0 k = 1 := h1
  refine Prod.ext (funext fun i => Emd.w0) (Prod.ext (funext fun i => ?_) (Prod.ext (funext fun i => ?_) (funext fun i => Emd.w0)))
  · refine Emd.w1.trans ?_
    exact congrArg Real.toEReal (h1 (i 1)).symm
  · refine Emd.w1.trans ?_
    exact congrArg Real.toEReal (h2 (i 1)).symm

/-- After the loop every jet pair has taken eighteen steps. -/
theorem lastCarry_L : lastCarry (F := Ideal) (L (u2 fun b => flat (P b))) (L (u2 w1)) (L (u2 w2)) (gMat Gm) (gMatT Gm)
    = liftR fun b => iterS (P b) (w1 b) (w2 b) (min (∑ i, w1 b i) (∑ i, w2 b i)) 18 := by
  unfold lastCarry
  exact fold_inv (n := k0_t1_loop.trips) (fun _ c => refStep (F := Ideal) (L (u2 fun b => flat (P b))) (L (u2 w1)) (L (u2 w2)) (gMat Gm) (gMatT Gm) c)
    (fun k c => c = liftR fun b => iterS (P b) (w1 b) (w2 b) (min (∑ i, w1 b i) (∑ i, w2 b i)) k) _ start_L
    (by rintro k c rfl; exact refStep_L P w1 w2 _ fun b => iterS_pos _ _ _ _ _)

/-- The stored entry of each jet pair. -/
theorem outBlk_L : outBlk (F := Ideal) (L (u2 fun b => flat (P b))) (L (u2 w1)) (L (u2 w2)) (gMat Gm) (gMatT Gm) = col fun b => emdS (P b) (w1 b) (w2 b) := by
  unfold outBlk
  rw [lastCarry_L]
  unfold k0_pay41 liftR
  rw [pay23_id, pay26_L, show k0_pay27 (F := Ideal) (L (u2 w2)) = _ from pay26_L w2]
  funext i
  unfold col
  idx_vars i
  pointwise [L, u2]
  simp only [← EReal.coe_mul, coe_sum, ← EReal.coe_sub]
  show _ + max _ (-_) = _
  rw [← EReal.coe_neg, ← Monotone.map_max EReal.coe_strictMono.monotone, ← EReal.coe_add, sum_256]
  simp only [flat_aM]
  rfl

end

variable (m : (ℓ : Loc nD τ sig) → Buf (Elt Ideal) ℓ) (ρ : Dev nD → PrngReg) (j1 j2 : Jets)
  (h1 : ∀ c : Dev nD, m ((c : Thread nD τ).loc main_arg0) = ofJets j1) (h2 : ∀ c : Dev nD, m ((c : Thread nD τ).loc main_arg1) = ofJets j2)

/-! Each operand's one block is the whole operand. -/

theorem iblk0 (c : Dev nD) (t : Fin cfg0.N) : iblk m c 0 t = V m c main_v17 := by
  rw [fin_N0 t]
  funext i
  unfold iblk
  refine congrArg (V m c main_v17) (funext fun a => Fin.ext ?_)
  fin_cases a <;> (show 0 * _ + 1 * _ = _; omega)
theorem iblk1 (c : Dev nD) (t : Fin cfg0.N) : iblk m c 1 t = V m c main_v14 := by
  rw [fin_N0 t]
  funext i
  unfold iblk
  refine congrArg (V m c main_v14) (funext fun a => Fin.ext ?_)
  fin_cases a <;> (show 0 * _ + 1 * _ = _; omega)
theorem iblk2 (c : Dev nD) (t : Fin cfg0.N) : iblk m c 2 t = V m c main_v16 := by
  rw [fin_N0 t]
  funext i
  unfold iblk
  refine congrArg (V m c main_v16) (funext fun a => Fin.ext ?_)
  fin_cases a <;> (show 0 * _ + 1 * _ = _; omega)
theorem iblk3 (c : Dev nD) (t : Fin cfg0.N) : iblk m c 3 t = V m c main_v31 := by
  rw [fin_N0 t]
  funext i
  unfold iblk
  refine congrArg (V m c main_v31) (funext fun a => Fin.ext ?_)
  fin_cases a <;> (show 0 * _ + 1 * _ = _; omega)
theorem iblk4 (c : Dev nD) (t : Fin cfg0.N) : iblk m c 4 t = V m c main_v32 := by
  rw [fin_N0 t]
  funext i
  unfold iblk
  refine congrArg (V m c main_v32) (funext fun a => Fin.ext ?_)
  fin_cases a <;> (show 0 * _ + 1 * _ = _; omega)

include h1 h2 in
/-- The stored array: one result per jet pair. -/
theorem arr_val (c : Dev nD) : (dats m 0 c).arrAt 5 cfg0.N = col (pairS j1 j2) := by
  refine (dats m 0 c).arrAt_eq_of_covers 5 _ (by decide +kernel) fun t hf y => ?_
  blk_simp
  rw [after0_5]
  unfold outAt
  rw [iblk0, iblk1, iblk2, iblk3, iblk4, V17, V14, V16, V31, V32, h1 c, h2 c, dists_L, wts_L, wts_L, gT_L, gAll_L]
  refine (congrFun (outBlk_L _ _ _) y).trans ?_
  refine congrArg (col (pairS j1 j2)) (funext fun a => Fin.ext ?_)
  rw [fin_N0 t]
  fin_cases a <;> (show _ = 0 * _ + 1 * _; omega)

include h1 h2 in
/-- The reference ends with every jet pair's result, its arguments as they were. -/
theorem run_val : θ_run defs (onTc (τ := τ) (main (F := Ideal))) ⟨m, fun _ => 0, ρ⟩ (fun r => ∀ c : Dev nD,
      r.2.mem ((c.tc : Thread nD τ).loc main_v34) = (fun i => ((pairS j1 j2 (i 0) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c)⟩) (run_main m ρ)
  refine ((h.1 c).2 main_v34 (Pipeline.mem_restRefs_of main_v34 (by decide) (by decide))).trans ?_
  unfold Pipeline.afterTail₀
  simp only [hostOps1, List.flatten_cons, List.flatten_nil, List.append_nil]
  after_results
  have hw := (Pipeline.withArrays_arr (cfgs 0).spec launch0.win.arr_inj c (V0 m c) (fun w => (dats m 0 c).arrAt w (cfgs 0).N) 5).trans (arr_val m j1 j2 h1 h2 c)
  funext i
  idx_vars i
  refine (shapeCast_apply _ _ _ (ix2 i0 (0 : Fin 1)) ?_).trans (congrFun hw _)
  refine (Shape.rowMajor_val_two _).trans (Eq.trans ?_ (Shape.rowMajor_val_one _).symm)
  show i0.val * 1 + 0 = i0.val
  omega

end Cert.ReferenceIdeal
-- ==== Proof.lean ====
/-
  The five claims, put together from the modules under Proof/: the frames of the three programs (BodyK, BodyKI, BodyRI),
  the one named constant, and the two programs' equal results on finite jets (KernelRun and RefRun, which both give each
  jet pair's entry as `emdS` of its distances and weights).
-/
module

public import proofs.«01_k».proof.Defs
public import proofs.«01_k».proof.Proof.Gen.Pre_finite
public import proofs.«01_k».proof.Proof.BodyK
public import proofs.«01_k».proof.Proof.KernelRun
public import proofs.«01_k».proof.Proof.RefRun
public import Idealize.ShloMosaic.Lib.ReduceAll
public import Idealize.ShloMosaic.Lib.Affine

@[expose] public section

noncomputable section

namespace Cert.Proof

open Idealize.ShloMosaic Idealize.SL.Sem
open Cert.KernelIdeal (Jets ofJets pairS)

/-- An array whose entries' magnitudes are all below infinity holds reals. -/
theorem reals_of (X : FVec Ideal Cert.Pre_finite.S32x16x3 .f32) (h : ∀ i, max (X i) (-(X i)) < (⊤ : EReal)) : ∃ j : Jets, X = ofJets j := by
  refine ⟨fun b i o => (X (ix3 b i o)).toReal, funext fun i => ?_⟩
  have h1 := h i
  rw [max_lt_iff] at h1
  refine (EReal.coe_toReal h1.1.ne fun e => ?_).symm.trans (congrArg (fun k => ((X k).toReal : EReal)) (eq_ix3 i))
  rw [e] at h1
  exact absurd h1.2 (by simp)

/-- A magnitude the comparison finds below infinity is below infinity. -/
theorem lt_of_cmp (x : EReal) (h : FloatOps.cmpf (F := Ideal) .olt (φ := .f32) (FloatOps.absf x) (FloatOps.ofBits (F := Ideal) .f32 0x7F800000#32) = 1#1) :
    max x (-x) < (⊤ : EReal) := by
  have h1 : BitVec.ofBool (decide (max x (-x) < Ideal.ofBits .f32 0x7F800000#32)) = 1#1 := h
  rw [Emd.winf] at h1
  by_contra hc
  rw [decide_eq_false hc] at h1
  exact absurd h1 (by decide)

/-- What the precondition says: the two arguments hold reals. -/
theorem reals_of_pre (X Y : FVec Ideal Cert.Pre_finite.S32x16x3 .f32) (h : Cert.Pre_finite.fn (F := Ideal) X Y = fun _ => 1#1) :
    (∃ j : Jets, X = ofJets j) ∧ ∃ j : Jets, Y = ofJets j := by
  have h0 := congrFun h ix0
  dsimp only [Cert.Pre_finite.fn] at h0
  obtain ⟨ha, hb⟩ := IntOp.andi_eq_one.1 h0
  exact ⟨reals_of X fun i => lt_of_cmp _ (Host.reduce_andi_all _ _ _ _ _ ha i), reals_of Y fun i => lt_of_cmp _ (Host.reduce_andi_all _ _ _ _ _ hb i)⟩

theorem frame_p : Cert.quiescent_Kernel := fun m g _ => Cert.Kernel.frame_all m g
theorem frame_pi : Cert.quiescent_KernelIdeal := fun m g _ => Cert.KernelIdeal.frame_all m g
theorem frame_pi_pre : Cert.quiescent_KernelIdeal_pre_finite := fun m g _ => Cert.KernelIdeal.frame_all m g
theorem frame_ri : Cert.quiescent_ReferenceIdeal := fun m g _ => Cert.ReferenceIdeal.frame_all m g
theorem frame_ri_pre : Cert.quiescent_ReferenceIdeal_pre_finite := fun m g _ => Cert.ReferenceIdeal.frame_all m g

/-- The one named constant: `1/288` stands where the kernel has its word. -/
theorem preserves : Cert.preserves_Kernel_KernelIdeal :=
  IdealRules.named_const.statement Cert.KernelIdeal.κ "inv_nin" .f32 0x3B638E39#32 ((1 / 288 : ℝ) : EReal) rfl

/-- On finite jets the kernel and the reference end with the same result: each jet pair's `emdS`. -/
theorem algebraic : Cert.algebraic_KernelIdeal_ReferenceIdeal_pre_finite := by
  intro m g m' g' hpre hag
  have hd : ∀ c d : Dev Cert.KernelIdeal.nD, c = d := fun c d => Subsingleton.elim c d
  have c0 : Dev Cert.KernelIdeal.nD := ⟨0, by decide⟩
  obtain ⟨⟨j1, h1⟩, j2, h2⟩ := reals_of_pre _ _ (hpre c0)
  have k1 : ∀ c : Dev Cert.KernelIdeal.nD, m ((c.tc : Thread Cert.KernelIdeal.nD Cert.KernelIdeal.τ).loc Cert.KernelIdeal.main_arg0) = ofJets j1 :=
    fun c => by rw [hd c c0]; exact h1
  have k2 : ∀ c : Dev Cert.KernelIdeal.nD, m ((c.tc : Thread Cert.KernelIdeal.nD Cert.KernelIdeal.τ).loc Cert.KernelIdeal.main_arg1) = ofJets j2 :=
    fun c => by rw [hd c c0]; exact h2
  exact ⟨fun _ i => ((pairS j1 j2 (i 0) : ℝ) : EReal), Cert.KernelIdeal.run_val m g j1 j2 k1 k2,
    Cert.ReferenceIdeal.run_val m' g' j1 j2 (fun c => (hag c).1.trans (k1 c)) (fun c => (hag c).2.trans (k2 c))⟩

theorem claim : Cert.Claim := ⟨Cert.Kernel.Gen.facts, Cert.KernelIdeal.Gen.facts, Cert.ReferenceIdeal.Gen.facts, Cert.Pre_finite.Gen.facts,
  frame_p, frame_pi, frame_pi_pre, frame_ri, frame_ri_pre, preserves, algebraic⟩

end Cert.Proof

end
